-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_entry_allowed [hPre_some_entry_allowed : Cert.Pre_some_entry_allowed.Facts] (m : (ℓ : Loc Cert.KernelIdeal.nD Cert.KernelIdeal.τ Cert.KernelIdeal.sig) → Buf (Elt Ideal) ℓ) : Prop :=
  ∀ c : Dev Cert.KernelIdeal.nD,
    (Cert.Pre_some_entry_allowed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_entry_allowed [hPre_some_entry_allowed : Cert.Pre_some_entry_allowed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_entry_allowed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_some_entry_allowed [hKernelIdeal : Cert.KernelIdeal.Facts] [hPre_some_entry_allowed : Cert.Pre_some_entry_allowed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_entry_allowed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_some_entry_allowed [hReferenceIdeal : Cert.ReferenceIdeal.Facts] [hPre_some_entry_allowed : Cert.Pre_some_entry_allowed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_entry_allowed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "pad" .f32 0xFF61B1E6#32 ⊥

def algebraic_KernelIdeal_ReferenceIdeal_pre_some_entry_allowed [hKernelIdeal : Cert.KernelIdeal.Facts] [hReferenceIdeal : Cert.ReferenceIdeal.Facts] [hPre_some_entry_allowed : Cert.Pre_some_entry_allowed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_entry_allowed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v210) = v0 c
          ∧ r.2.mem ((c.tc : Thread Cert.ReferenceIdeal.nD Cert.ReferenceIdeal.τ).loc Cert.ReferenceIdeal.main_v214) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_some_entry_allowed : Cert.Pre_some_entry_allowed.Facts),
    quiescent_Kernel (hKernel := hKernel)
    ∧ quiescent_KernelIdeal (hKernelIdeal := hKernelIdeal)
    ∧ quiescent_KernelIdeal_pre_some_entry_allowed (hKernelIdeal := hKernelIdeal) (hPre_some_entry_allowed := hPre_some_entry_allowed)
    ∧ quiescent_ReferenceIdeal (hReferenceIdeal := hReferenceIdeal)
    ∧ quiescent_ReferenceIdeal_pre_some_entry_allowed (hReferenceIdeal := hReferenceIdeal) (hPre_some_entry_allowed := hPre_some_entry_allowed)
    ∧ preserves_Kernel_KernelIdeal
    ∧ algebraic_KernelIdeal_ReferenceIdeal_pre_some_entry_allowed (hKernelIdeal := hKernelIdeal) (hReferenceIdeal := hReferenceIdeal) (hPre_some_entry_allowed := hPre_some_entry_allowed)
-- ==== Pre_some_entry_allowed.lean ====
abbrev S32x1000000 : Shape := ⟨2, ![32, 1000000]⟩
abbrev S_ : Shape := ⟨0, ![]⟩
abbrev S32 : Shape := ⟨1, ![32]⟩

class Facts : Prop where
  bcast_S_S32x1000000 : S_.BroadcastsInDim S32x1000000 (![] : Fin 0 → Fin S32x1000000.rank)
  reducesTo_S32x1000000_S32_d1 : S32x1000000.ReducesTo [1] S32
  h_S_ : 0 < S_.numel
  reducesTo_S32_S_d0 : S32.ReducesTo [0] S_

variable [Facts]

def fn_where {F : FTy → Type} [FloatOps F] (arg0 : IVec S32x1000000 1) (arg1 : FVec F S32x1000000 .f32) (arg2 : FVec F S_ .f32) : FVec F S32x1000000 .f32 :=
  let v0 : FVec F S32x1000000 .f32 := broadcastInDim S32x1000000 ![] bcast_S_S32x1000000 arg2
  let v1 : FVec F S32x1000000 .f32 := select arg0 arg1 v0
  v1

def fn {F : FTy → Type} [FloatOps F] (main_arg0 : FVec F S32x1000000 .f32) (main_arg1 : IVec S32x1000000 32) : IVec S_ 1 :=
  let main_c : IVec S_ 32 := constantI S_ 32 0#32
  let main_v0 : IVec S32x1000000 32 := broadcastInDim S32x1000000 ![] bcast_S_S32x1000000 main_c
  let main_v1 : IVec S32x1000000 1 := cmpi .sgt main_arg1 main_v0
  let main_cst : FVec F S_ .f32 := constant S_ .f32 0xCE6E6B28#32
  let main_v2 : FVec F S32x1000000 .f32 := fn_where (F := F) main_v1 main_arg0 main_cst
  let main_cst_0 : FVec F S_ .f32 := constant S_ .f32 0xFF800000#32
  let main_v3 : FVec F S32x1000000 .f32 := broadcastInDim S32x1000000 ![] bcast_S_S32x1000000 main_cst_0
  let main_v4 : IVec S32x1000000 1 := cmpf .ogt main_v2 main_v3
  let main_c_1 : IVec S_ 1 := constantI S_ 1 0#1
  let main_v5 : IVec S32 1 := (fun x v => Host.reduce IntOp.ori x v reducesTo_S32x1000000_S32_d1 h_S_) main_v4 main_c_1
  let main_c_2 : IVec S_ 1 := constantI S_ 1 1#1
  let main_v6 : IVec S_ 1 := (fun x v => Host.reduce IntOp.andi x v reducesTo_S32_S_d0 h_S_) main_v5 main_c_2
  main_v6
-- ==== Kernel.lean ====
abbrev S32x1000000 : Shape := ⟨2, ![32, 1000000]⟩
abbrev S32x1 : Shape := ⟨2, ![32, 1]⟩
abbrev S32x8192 : Shape := ⟨2, ![32, 8192]⟩
abbrev S32x1024 : Shape := ⟨2, ![32, 1024]⟩
abbrev S32x2048 : Shape := ⟨2, ![32, 2048]⟩
abbrev S32 : Shape := ⟨1, ![32]⟩

abbrev nBuf : Space → Nat
  | .hbm => 6
  | .vmem => 11
  | .smem => 0
  | _ => 0

abbrev bufTy : (tb : Table) → Fin (tcTables nBuf tb) → BufTy
  | .hbm, ⟨0, _⟩ => ⟨S32x1000000, .f32⟩
  | .hbm, ⟨1, _⟩ => ⟨S32x1000000, .i32⟩
  | .hbm, ⟨2, _⟩ => ⟨S32x1, .i32⟩
  | .hbm, ⟨3, _⟩ => ⟨S32x1, .f32⟩
  | .hbm, ⟨4, _⟩ => ⟨S32, .i32⟩
  | .hbm, ⟨5, _⟩ => ⟨S32, .f32⟩
  | .local _ .vmem, ⟨0, _⟩ => ⟨S32x8192, .f32⟩
  | .local _ .vmem, ⟨1, _⟩ => ⟨S32x8192, .f32⟩
  | .local _ .vmem, ⟨2, _⟩ => ⟨S32x8192, .i32⟩
  | .local _ .vmem, ⟨3, _⟩ => ⟨S32x8192, .i32⟩
  | .local _ .vmem, ⟨4, _⟩ => ⟨S32x1024, .f32⟩
  | .local _ .vmem, ⟨5, _⟩ => ⟨S32x1024, .i32⟩
  | .local _ .vmem, ⟨6, _⟩ => ⟨S32x1, .i32⟩
  | .local _ .vmem, ⟨7, _⟩ => ⟨S32x1, .f32⟩
  | .local _ .vmem, ⟨8, _⟩ => ⟨S32x2048, .f32⟩
  | .local _ .vmem, ⟨9, _⟩ => ⟨S32x2048, .i32⟩
  | .local _ .vmem, ⟨10, _⟩ => ⟨S32x2048, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![122], ![false]⟩

@[reducible] def k0_t1_loop : Scf.Loop 32 :=
  let c0_i32_1 : BitVec 32 := 0#32
  let c2_i32 : BitVec 32 := 2#32
  let v10 : BitVec 32 := Scalar.addi c0_i32_1 c2_i32
  let c1_i32 : BitVec 32 := 1#32
  ⟨c0_i32_1, v10, c1_i32⟩
def k0_off1 (k0_t1 : Fin k0_t1_loop.trips) (c0_i32_9 : BitVec 32) : Fin 2 → Nat :=
  let c0_10 : Index := 0#32
  let c0_i32_1 : BitVec 32 := 0#32
  let c1_i32 : BitVec 32 := 1#32
  let arg10 : BitVec 32 := Scf.iv c0_i32_1 c1_i32 k0_t1
  let c4096_i32 : BitVec 32 := 4096#32
  let v17 : BitVec 32 := Scalar.muli arg10 c4096_i32
  let v18 : BitVec 32 := Scalar.addi v17 c0_i32_9
  let v19 : Index := Scalar.indexCast v18
  ![0, v19.toNat]
def k0_cond2 (i : grid0.Coords) : BitVec 1 :=
  let arg0 : BitVec 32 := BitVec.ofNat 32 (i 0).val
  let c121_i32 : BitVec 32 := 121#32
  let v11 : BitVec 1 := Scalar.cmpi .eq arg0 c121_i32
  let v12 : BitVec 32 := Scalar.extui v11
  let c0_i32_3 : BitVec 32 := 0#32
  let v13 : BitVec 1 := Scalar.cmpi .ne v12 c0_i32_3
  v13

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c976_i32 : BitVec 32 := 976#32
  let c0_i32_0 : BitVec 32 := 0#32
  ![c0_i32.toNat, c976_i32.toNat]

def cc0_transform_3 (i : grid0.Coords) : Fin 2 → Nat :=
  let arg0 : BitVec 32 := BitVec.ofNat 32 (i 0).val
  let c0_i32 : BitVec 32 := 0#32
  let c976_i32 : BitVec 32 := 976#32
  let c0_i32_0 : BitVec 32 := 0#32
  ![c0_i32.toNat, c976_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KernelIdeal.lean ====
variable {F : FTy → Type} [FloatOps F] [Named F]
def κ : String → Option EReal := fun
  | "pad" => some ⊥
  | _ => none
-- ==== ReferenceIdeal.lean ====
abbrev S32x1000000 : Shape := ⟨2, ![32, 1000000]⟩
abbrev S_ : Shape := ⟨0, ![]⟩
abbrev S32 : Shape := ⟨1, ![32]⟩
abbrev S32x1 : Shape := ⟨2, ![32, 1]⟩
abbrev S32x1x1 : Shape := ⟨3, ![32, 1, 1]⟩
abbrev S1 : Shape := ⟨1, ![1]⟩
abbrev S1x1x1 : Shape := ⟨3, ![1, 1, 1]⟩

abbrev nBuf : Space → Nat
  | .hbm => 315
  | .vmem => 0
  | .smem => 0
  | _ => 0

abbrev hbmTy0_0 (i : Nat) : BufTy := match i % 128 with
  | 0 => ⟨S32x1000000, .f32⟩
  | 1 => ⟨S32x1000000, .i32⟩
  | 2 => ⟨S_, .i32⟩
  | 3 => ⟨S_, .i32⟩
  | 4 => ⟨S_, .i32⟩
  | 5 => ⟨S32x1000000, .i32⟩
  | 6 => ⟨S32x1000000, .i1⟩
  | 7 => ⟨S_, .f32⟩
  | 8 => ⟨S32x1000000, .f32⟩
  | 9 => ⟨S32x1000000, .f32⟩
  | 10 => ⟨S32x1000000, .i32⟩
  | 11 => ⟨S32x1000000, .i32⟩
  | 12 => ⟨S_, .i32⟩
  | 13 => ⟨S32x1000000, .i32⟩
  | 14 => ⟨S_, .i32⟩
  | 15 => ⟨S32x1000000, .i32⟩
  | 16 => ⟨S32x1000000, .i32⟩
  | 17 => ⟨S32x1000000, .i32⟩
  | 18 => ⟨S_, .i32⟩
  | 19 => ⟨S_, .i32⟩
  | 20 => ⟨S_, .i32⟩
  | 21 => ⟨S32x1000000, .i32⟩
  | 22 => ⟨S32x1000000, .i32⟩
  | 23 => ⟨S32x1000000, .i32⟩
  | 24 => ⟨S32x1000000, .i32⟩
  | 25 => ⟨S32x1000000, .i32⟩
  | 26 => ⟨S_, .i32⟩
  | 27 => ⟨S32x1000000, .i32⟩
  | 28 => ⟨S32x1000000, .i32⟩
  | 29 => ⟨S_, .i32⟩
  | 30 => ⟨S32x1000000, .i32⟩
  | 31 => ⟨S32x1000000, .i32⟩
  | 32 => ⟨S32x1000000, .i32⟩
  | 33 => ⟨S32x1000000, .i32⟩
  | 34 => ⟨S32x1000000, .i32⟩
  | 35 => ⟨S_, .i32⟩
  | 36 => ⟨S32x1000000, .i32⟩
  | 37 => ⟨S32x1000000, .i32⟩
  | 38 => ⟨S_, .i32⟩
  | 39 => ⟨S32x1000000, .i32⟩
  | 40 => ⟨S32x1000000, .i32⟩
  | 41 => ⟨S32x1000000, .i32⟩
  | 42 => ⟨S32x1000000, .i32⟩
  | 43 => ⟨S32x1000000, .i32⟩
  | 44 => ⟨S_, .i32⟩
  | 45 => ⟨S32x1000000, .i32⟩
  | 46 => ⟨S32x1000000, .i32⟩
  | 47 => ⟨S_, .i32⟩
  | 48 => ⟨S32x1000000, .i32⟩
  | 49 => ⟨S32x1000000, .i32⟩
  | 50 => ⟨S32x1000000, .i32⟩
  | 51 => ⟨S32x1000000, .i32⟩
  | 52 => ⟨S32x1000000, .i32⟩
  | 53 => ⟨S_, .i32⟩
  | 54 => ⟨S32x1000000, .i32⟩
  | 55 => ⟨S32x1000000, .i32⟩
  | 56 => ⟨S_, .i32⟩
  | 57 => ⟨S32x1000000, .i32⟩
  | 58 => ⟨S32x1000000, .i32⟩
  | 59 => ⟨S32x1000000, .i32⟩
  | 60 => ⟨S32x1000000, .i32⟩
  | 61 => ⟨S32x1000000, .i32⟩
  | 62 => ⟨S32x1000000, .i32⟩
  | 63 => ⟨S32x1000000, .i32⟩
  | 64 => ⟨S32x1000000, .i32⟩
  | 65 => ⟨S_, .i32⟩
  | 66 => ⟨S32x1000000, .i32⟩
  | 67 => ⟨S32x1000000, .i32⟩
  | 68 => ⟨S32x1000000, .i32⟩
  | 69 => ⟨S_, .i32⟩
  | 70 => ⟨S32x1000000, .i32⟩
  | 71 => ⟨S32x1000000, .i32⟩
  | 72 => ⟨S_, .i32⟩
  | 73 => ⟨S32x1000000, .i32⟩
  | 74 => ⟨S32x1000000, .i32⟩
  | 75 => ⟨S32x1000000, .i32⟩
  | 76 => ⟨S32x1000000, .i32⟩
  | 77 => ⟨S32x1000000, .i32⟩
  | 78 => ⟨S_, .i32⟩
  | 79 => ⟨S32x1000000, .i32⟩
  | 80 => ⟨S32x1000000, .i32⟩
  | 81 => ⟨S_, .i32⟩
  | 82 => ⟨S32x1000000, .i32⟩
  | 83 => ⟨S32x1000000, .i32⟩
  | 84 => ⟨S32x1000000, .i32⟩
  | 85 => ⟨S32x1000000, .i32⟩
  | 86 => ⟨S32x1000000, .i32⟩
  | 87 => ⟨S_, .i32⟩
  | 88 => ⟨S32x1000000, .i32⟩
  | 89 => ⟨S32x1000000, .i32⟩
  | 90 => ⟨S_, .i32⟩
  | 91 => ⟨S32x1000000, .i32⟩
  | 92 => ⟨S32x1000000, .i32⟩
  | 93 => ⟨S32x1000000, .i32⟩
  | 94 => ⟨S32x1000000, .i32⟩
  | 95 => ⟨S32x1000000, .i32⟩
  | 96 => ⟨S_, .i32⟩
  | 97 => ⟨S32x1000000, .i32⟩
  | 98 => ⟨S32x1000000, .i32⟩
  | 99 => ⟨S_, .i32⟩
  | 100 => ⟨S32x1000000, .i32⟩
  | 101 => ⟨S32x1000000, .i32⟩
  | 102 => ⟨S32x1000000, .i32⟩
  | 103 => ⟨S32x1000000, .i32⟩
  | 104 => ⟨S32x1000000, .i32⟩
  | 105 => ⟨S32x1000000, .i32⟩
  | 106 => ⟨S32x1000000, .i32⟩
  | 107 => ⟨S32x1000000, .i32⟩
  | 108 => ⟨S_, .i32⟩
  | 109 => ⟨S32x1000000, .i32⟩
  | 110 => ⟨S32x1000000, .i32⟩
  | 111 => ⟨S32x1000000, .i32⟩
  | 112 => ⟨S_, .i32⟩
  | 113 => ⟨S32x1000000, .i32⟩
  | 114 => ⟨S32x1000000, .i32⟩
  | 115 => ⟨S_, .i32⟩
  | 116 => ⟨S32x1000000, .i32⟩
  | 117 => ⟨S32x1000000, .i32⟩
  | 118 => ⟨S32x1000000, .i32⟩
  | 119 => ⟨S32x1000000, .i32⟩
  | 120 => ⟨S32x1000000, .i32⟩
  | 121 => ⟨S_, .i32⟩
  | 122 => ⟨S32x1000000, .i32⟩
  | 123 => ⟨S32x1000000, .i32⟩
  | 124 => ⟨S_, .i32⟩
  | 125 => ⟨S32x1000000, .i32⟩
  | 126 => ⟨S32x1000000, .i32⟩
  | 127 => ⟨S32x1000000, .i32⟩
  | _ => ⟨S32x1000000, .f32⟩

abbrev hbmTy0_1 (i : Nat) : BufTy := match i % 128 with
  | 0 => ⟨S32x1000000, .i32⟩
  | 1 => ⟨S32x1000000, .i32⟩
  | 2 => ⟨S_, .i32⟩
  | 3 => ⟨S32x1000000, .i32⟩
  | 4 => ⟨S32x1000000, .i32⟩
  | 5 => ⟨S_, .i32⟩
  | 6 => ⟨S32x1000000, .i32⟩
  | 7 => ⟨S32x1000000, .i32⟩
  | 8 => ⟨S32x1000000, .i32⟩
  | 9 => ⟨S32x1000000, .i32⟩
  | 10 => ⟨S32x1000000, .i32⟩
  | 11 => ⟨S_, .i32⟩
  | 12 => ⟨S32x1000000, .i32⟩
  | 13 => ⟨S32x1000000, .i32⟩
  | 14 => ⟨S_, .i32⟩
  | 15 => ⟨S32x1000000, .i32⟩
  | 16 => ⟨S32x1000000, .i32⟩
  | 17 => ⟨S32x1000000, .i32⟩
  | 18 => ⟨S32x1000000, .i32⟩
  | 19 => ⟨S32x1000000, .i32⟩
  | 20 => ⟨S32x1000000, .i32⟩
  | 21 => ⟨S32x1000000, .i32⟩
  | 22 => ⟨S32x1000000, .i32⟩
  | 23 => ⟨S_, .i32⟩
  | 24 => ⟨S32x1000000, .i32⟩
  | 25 => ⟨S32x1000000, .i32⟩
  | 26 => ⟨S32x1000000, .i32⟩
  | 27 => ⟨S_, .i32⟩
  | 28 => ⟨S32x1000000, .i32⟩
  | 29 => ⟨S32x1000000, .i32⟩
  | 30 => ⟨S_, .i32⟩
  | 31 => ⟨S32x1000000, .i32⟩
  | 32 => ⟨S32x1000000, .i32⟩
  | 33 => ⟨S32x1000000, .i32⟩
  | 34 => ⟨S32x1000000, .i32⟩
  | 35 => ⟨S32x1000000, .i32⟩
  | 36 => ⟨S_, .i32⟩
  | 37 => ⟨S32x1000000, .i32⟩
  | 38 => ⟨S32x1000000, .i32⟩
  | 39 => ⟨S_, .i32⟩
  | 40 => ⟨S32x1000000, .i32⟩
  | 41 => ⟨S32x1000000, .i32⟩
  | 42 => ⟨S32x1000000, .i32⟩
  | 43 => ⟨S32x1000000, .i32⟩
  | 44 => ⟨S32x1000000, .i32⟩
  | 45 => ⟨S_, .i32⟩
  | 46 => ⟨S32x1000000, .i32⟩
  | 47 => ⟨S32x1000000, .i32⟩
  | 48 => ⟨S_, .i32⟩
  | 49 => ⟨S32x1000000, .i32⟩
  | 50 => ⟨S32x1000000, .i32⟩
  | 51 => ⟨S32x1000000, .i32⟩
  | 52 => ⟨S32x1000000, .i32⟩
  | 53 => ⟨S32x1000000, .i32⟩
  | 54 => ⟨S_, .i32⟩
  | 55 => ⟨S32x1000000, .i32⟩
  | 56 => ⟨S32x1000000, .i32⟩
  | 57 => ⟨S_, .i32⟩
  | 58 => ⟨S32x1000000, .i32⟩
  | 59 => ⟨S32x1000000, .i32⟩
  | 60 => ⟨S32x1000000, .i32⟩
  | 61 => ⟨S32x1000000, .i32⟩
  | 62 => ⟨S32x1000000, .i32⟩
  | 63 => ⟨S32x1000000, .i32⟩
  | 64 => ⟨S32x1000000, .i32⟩
  | 65 => ⟨S32x1000000, .i32⟩
  | 66 => ⟨S_, .i32⟩
  | 67 => ⟨S32x1000000, .i32⟩
  | 68 => ⟨S32x1000000, .i32⟩
  | 69 => ⟨S32x1000000, .i32⟩
  | 70 => ⟨S_, .i32⟩
  | 71 => ⟨S32x1000000, .i32⟩
  | 72 => ⟨S32x1000000, .i32⟩
  | 73 => ⟨S_, .i32⟩
  | 74 => ⟨S32x1000000, .i32⟩
  | 75 => ⟨S32x1000000, .i32⟩
  | 76 => ⟨S32x1000000, .i32⟩
  | 77 => ⟨S32x1000000, .i32⟩
  | 78 => ⟨S32x1000000, .i32⟩
  | 79 => ⟨S_, .i32⟩
  | 80 => ⟨S32x1000000, .i32⟩
  | 81 => ⟨S32x1000000, .i32⟩
  | 82 => ⟨S_, .i32⟩
  | 83 => ⟨S32x1000000, .i32⟩
  | 84 => ⟨S32x1000000, .i32⟩
  | 85 => ⟨S32x1000000, .i32⟩
  | 86 => ⟨S32x1000000, .i32⟩
  | 87 => ⟨S32x1000000, .i32⟩
  | 88 => ⟨S_, .i32⟩
  | 89 => ⟨S32x1000000, .i32⟩
  | 90 => ⟨S32x1000000, .i32⟩
  | 91 => ⟨S_, .i32⟩
  | 92 => ⟨S32x1000000, .i32⟩
  | 93 => ⟨S32x1000000, .i32⟩
  | 94 => ⟨S32x1000000, .i32⟩
  | 95 => ⟨S32x1000000, .i32⟩
  | 96 => ⟨S32x1000000, .i32⟩
  | 97 => ⟨S_, .i32⟩
  | 98 => ⟨S32x1000000, .i32⟩
  | 99 => ⟨S32x1000000, .i32⟩
  | 100 => ⟨S_, .i32⟩
  | 101 => ⟨S32x1000000, .i32⟩
  | 102 => ⟨S32x1000000, .i32⟩
  | 103 => ⟨S32x1000000, .i32⟩
  | 104 => ⟨S32x1000000, .i32⟩
  | 105 => ⟨S32x1000000, .i32⟩
  | 106 => ⟨S32x1000000, .i32⟩
  | 107 => ⟨S32x1000000, .i32⟩
  | 108 => ⟨S32x1000000, .i32⟩
  | 109 => ⟨S_, .i32⟩
  | 110 => ⟨S32x1000000, .i32⟩
  | 111 => ⟨S32x1000000, .i32⟩
  | 112 => ⟨S32x1000000, .i32⟩
  | 113 => ⟨S_, .i32⟩
  | 114 => ⟨S32x1000000, .i32⟩
  | 115 => ⟨S32x1000000, .i32⟩
  | 116 => ⟨S_, .i32⟩
  | 117 => ⟨S32x1000000, .i32⟩
  | 118 => ⟨S32x1000000, .i32⟩
  | 119 => ⟨S32x1000000, .f32⟩
  | 120 => ⟨S_, .f32⟩
  | 121 => ⟨S32x1000000, .f32⟩
  | 122 => ⟨S32x1000000, .f32⟩
  | 123 => ⟨S_, .f32⟩
  | 124 => ⟨S32x1000000, .f32⟩
  | 125 => ⟨S32x1000000, .f32⟩
  | 126 => ⟨S_, .f32⟩
  | 127 => ⟨S32x1000000, .f32⟩
  | _ => ⟨S32x1000000, .f32⟩

abbrev hbmTy0_2 (i : Nat) : BufTy := match i % 128 with
  | 0 => ⟨S32x1000000, .f32⟩
  | 1 => ⟨S_, .f32⟩
  | 2 => ⟨S32x1000000, .f32⟩
  | 3 => ⟨S32x1000000, .f32⟩
  | 4 => ⟨S32x1000000, .f32⟩
  | 5 => ⟨S32x1000000, .f32⟩
  | 6 => ⟨S32x1000000, .f32⟩
  | 7 => ⟨S32x1000000, .f32⟩
  | 8 => ⟨S32x1000000, .f32⟩
  | 9 => ⟨S_, .f32⟩
  | 10 => ⟨S32, .f32⟩
  | 11 => ⟨S32x1, .f32⟩
  | 12 => ⟨S32x1000000, .f32⟩
  | 13 => ⟨S32x1000000, .i1⟩
  | 14 => ⟨S32x1000000, .i32⟩
  | 15 => ⟨S_, .i32⟩
  | 16 => ⟨S32x1000000, .i32⟩
  | 17 => ⟨S32x1000000, .i32⟩
  | 18 => ⟨S_, .i32⟩
  | 19 => ⟨S32, .i32⟩
  | 20 => ⟨S_, .f32⟩
  | 21 => ⟨S32, .f32⟩
  | 22 => ⟨S_, .f32⟩
  | 23 => ⟨S32, .f32⟩
  | 24 => ⟨S32, .f32⟩
  | 25 => ⟨S32x1, .f32⟩
  | 26 => ⟨S32x1000000, .f32⟩
  | 27 => ⟨S32x1000000, .f32⟩
  | 28 => ⟨S32x1000000, .f32⟩
  | 29 => ⟨S_, .f32⟩
  | 30 => ⟨S32, .f32⟩
  | 31 => ⟨S32x1, .f32⟩
  | 32 => ⟨S32x1, .f32⟩
  | 33 => ⟨S32x1000000, .f32⟩
  | 34 => ⟨S32x1000000, .f32⟩
  | 35 => ⟨S32x1, .i32⟩
  | 36 => ⟨S_, .i32⟩
  | 37 => ⟨S32x1, .i32⟩
  | 38 => ⟨S32x1, .i1⟩
  | 39 => ⟨S_, .i32⟩
  | 40 => ⟨S32x1, .i32⟩
  | 41 => ⟨S32x1, .i32⟩
  | 42 => ⟨S32x1, .i32⟩
  | 43 => ⟨S32x1x1, .i32⟩
  | 44 => ⟨S1, .i32⟩
  | 45 => ⟨S_, .i32⟩
  | 46 => ⟨S32x1x1, .i32⟩
  | 47 => ⟨S32x1x1, .i1⟩
  | 48 => ⟨S1x1x1, .i32⟩
  | 49 => ⟨S32x1x1, .i32⟩
  | 50 => ⟨S32x1x1, .i1⟩
  | 51 => ⟨S32x1x1, .i1⟩
  | 52 => ⟨S_, .i1⟩
  | 53 => ⟨S32x1, .i1⟩
  | 54 => ⟨S32x1, .f32⟩
  | 55 => ⟨S_, .f32⟩
  | 56 => ⟨S32x1, .f32⟩
  | 57 => ⟨S32x1, .f32⟩
  | 58 => ⟨S32, .f32⟩
  | _ => ⟨S32x1000000, .f32⟩

abbrev hbmTy (i : Nat) : BufTy := match i / 128 with
  | 0 => hbmTy0_0 i
  | 1 => hbmTy0_1 i
  | 2 => hbmTy0_2 i
  | _ => ⟨S32x1000000, .f32⟩

abbrev bufTy : (tb : Table) → Fin (tcTables nBuf tb) → BufTy
  | .hbm, ⟨i, _⟩ => hbmTy i
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_2 : Ref sig .tc := ⟨.hbm, 12, rfl⟩
abbrev main_v5 : Ref sig .tc := ⟨.hbm, 13, rfl⟩
abbrev main_c_3 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_5 : Ref sig .tc := ⟨.hbm, 26, rfl⟩
abbrev main_v16 : Ref sig .tc := ⟨.hbm, 27, rfl⟩
abbrev main_v17 : Ref sig .tc := ⟨.hbm, 28, rfl⟩
abbrev main_c_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_7 : Ref sig .tc := ⟨.hbm, 35, rfl⟩
abbrev main_v23 : Ref sig .tc := ⟨.hbm, 36, rfl⟩
abbrev main_v24 : Ref sig .tc := ⟨.hbm, 37, rfl⟩
abbrev main_c_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_9 : Ref sig .tc := ⟨.hbm, 44, rfl⟩
abbrev main_v30 : Ref sig .tc := ⟨.hbm, 45, rfl⟩
abbrev main_v31 : Ref sig .tc := ⟨.hbm, 46, rfl⟩
abbrev main_c_10 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_11 : Ref sig .tc := ⟨.hbm, 53, rfl⟩
abbrev main_v37 : Ref sig .tc := ⟨.hbm, 54, rfl⟩
abbrev main_v38 : Ref sig .tc := ⟨.hbm, 55, rfl⟩
abbrev main_c_12 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_13 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_14 : Ref sig .tc := ⟨.hbm, 69, rfl⟩
abbrev main_v50 : Ref sig .tc := ⟨.hbm, 70, rfl⟩
abbrev main_v51 : Ref sig .tc := ⟨.hbm, 71, rfl⟩
abbrev main_c_15 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_16 : Ref sig .tc := ⟨.hbm, 78, rfl⟩
abbrev main_v57 : Ref sig .tc := ⟨.hbm, 79, rfl⟩
abbrev main_v58 : Ref sig .tc := ⟨.hbm, 80, rfl⟩
abbrev main_c_17 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_18 : Ref sig .tc := ⟨.hbm, 87, rfl⟩
abbrev main_v64 : Ref sig .tc := ⟨.hbm, 88, rfl⟩
abbrev main_v65 : Ref sig .tc := ⟨.hbm, 89, rfl⟩
abbrev main_c_19 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_20 : Ref sig .tc := ⟨.hbm, 96, rfl⟩
abbrev main_v71 : Ref sig .tc := ⟨.hbm, 97, rfl⟩
abbrev main_v72 : Ref sig .tc := ⟨.hbm, 98, rfl⟩
abbrev main_c_21 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_22 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_c_23 : Ref sig .tc := ⟨.hbm, 112, rfl⟩
abbrev main_v84 : Ref sig .tc := ⟨.hbm, 113, rfl⟩
abbrev main_v85 : Ref sig .tc := ⟨.hbm, 114, rfl⟩
abbrev main_c_24 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_25 : Ref sig .tc := ⟨.hbm, 121, rfl⟩
abbrev main_v91 : Ref sig .tc := ⟨.hbm, 122, rfl⟩
abbrev main_v92 : Ref sig .tc := ⟨.hbm, 123, rfl⟩
abbrev main_c_26 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_27 : Ref sig .tc := ⟨.hbm, 130, rfl⟩
abbrev main_v98 : Ref sig .tc := ⟨.hbm, 131, rfl⟩
abbrev main_v99 : Ref sig .tc := ⟨.hbm, 132, rfl⟩
abbrev main_c_28 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_29 : Ref sig .tc := ⟨.hbm, 139, rfl⟩
abbrev main_v105 : Ref sig .tc := ⟨.hbm, 140, rfl⟩
abbrev main_v106 : Ref sig .tc := ⟨.hbm, 141, rfl⟩
abbrev main_c_30 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_c_31 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_c_32 : Ref sig .tc := ⟨.hbm, 155, rfl⟩
abbrev main_v118 : Ref sig .tc := ⟨.hbm, 156, rfl⟩
abbrev main_v119 : Ref sig .tc := ⟨.hbm, 157, rfl⟩
abbrev main_c_33 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_c_34 : Ref sig .tc := ⟨.hbm, 164, rfl⟩
abbrev main_v125 : Ref sig .tc := ⟨.hbm, 165, rfl⟩
abbrev main_v126 : Ref sig .tc := ⟨.hbm, 166, rfl⟩
abbrev main_c_35 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_c_36 : Ref sig .tc := ⟨.hbm, 173, rfl⟩
abbrev main_v132 : Ref sig .tc := ⟨.hbm, 174, rfl⟩
abbrev main_v133 : Ref sig .tc := ⟨.hbm, 175, rfl⟩
abbrev main_c_37 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_v137 : Ref sig .tc := ⟨.hbm, 180, rfl⟩
abbrev main_v138 : Ref sig .tc := ⟨.hbm, 181, rfl⟩
abbrev main_c_38 : Ref sig .tc := ⟨.hbm, 182, rfl⟩
abbrev main_v139 : Ref sig .tc := ⟨.hbm, 183, rfl⟩
abbrev main_v140 : Ref sig .tc := ⟨.hbm, 184, rfl⟩
abbrev main_c_39 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_c_40 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_c_41 : Ref sig .tc := ⟨.hbm, 198, rfl⟩
abbrev main_v152 : Ref sig .tc := ⟨.hbm, 199, rfl⟩
abbrev main_v153 : Ref sig .tc := ⟨.hbm, 200, rfl⟩
abbrev main_c_42 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_c_43 : Ref sig .tc := ⟨.hbm, 207, rfl⟩
abbrev main_v159 : Ref sig .tc := ⟨.hbm, 208, rfl⟩
abbrev main_v160 : Ref sig .tc := ⟨.hbm, 209, rfl⟩
abbrev main_c_44 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_c_45 : Ref sig .tc := ⟨.hbm, 216, rfl⟩
abbrev main_v166 : Ref sig .tc := ⟨.hbm, 217, rfl⟩
abbrev main_v167 : Ref sig .tc := ⟨.hbm, 218, rfl⟩
abbrev main_c_46 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_c_47 : Ref sig .tc := ⟨.hbm, 225, rfl⟩
abbrev main_v173 : Ref sig .tc := ⟨.hbm, 226, rfl⟩
abbrev main_v174 : Ref sig .tc := ⟨.hbm, 227, rfl⟩
abbrev main_c_48 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_v179 : Ref sig .tc := ⟨.hbm, 233, rfl⟩
abbrev main_v180 : Ref sig .tc := ⟨.hbm, 234, rfl⟩
abbrev main_v181 : Ref sig .tc := ⟨.hbm, 235, rfl⟩
abbrev main_v182 : Ref sig .tc := ⟨.hbm, 236, rfl⟩
abbrev main_c_49 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_c_50 : Ref sig .tc := ⟨.hbm, 241, rfl⟩
abbrev main_v186 : Ref sig .tc := ⟨.hbm, 242, rfl⟩
abbrev main_v187 : Ref sig .tc := ⟨.hbm, 243, rfl⟩
abbrev main_c_51 : Ref sig .tc := ⟨.hbm, 244, rfl⟩
abbrev main_v188 : Ref sig .tc := ⟨.hbm, 245, rfl⟩
abbrev main_v189 : Ref sig .tc := ⟨.hbm, 246, rfl⟩
abbrev main_v190 : Ref sig .tc := ⟨.hbm, 247, rfl⟩
abbrev main_cst_52 : Ref sig .tc := ⟨.hbm, 248, rfl⟩
abbrev main_v191 : Ref sig .tc := ⟨.hbm, 249, rfl⟩
abbrev main_v192 : Ref sig .tc := ⟨.hbm, 250, rfl⟩
abbrev main_cst_53 : Ref sig .tc := ⟨.hbm, 251, rfl⟩
abbrev main_v193 : Ref sig .tc := ⟨.hbm, 252, rfl⟩
abbrev main_v194 : Ref sig .tc := ⟨.hbm, 253, rfl⟩
abbrev main_cst_54 : Ref sig .tc := ⟨.hbm, 254, rfl⟩
abbrev main_v195 : Ref sig .tc := ⟨.hbm, 255, rfl⟩
abbrev main_v196 : Ref sig .tc := ⟨.hbm, 256, rfl⟩
abbrev main_cst_55 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_cst_56 : Ref sig .tc := ⟨.hbm, 265, rfl⟩
abbrev main_v204 : Ref sig .tc := ⟨.hbm, 266, rfl⟩
abbrev main_v205 : Ref sig .tc := ⟨.hbm, 267, rfl⟩
abbrev main_v206 : Ref sig .tc := ⟨.hbm, 268, rfl⟩
abbrev main_v207 : Ref sig .tc := ⟨.hbm, 269, rfl⟩
abbrev main_v208 : Ref sig .tc := ⟨.hbm, 270, rfl⟩
abbrev main_c_57 : Ref sig .tc := ⟨.hbm, 271, rfl⟩
abbrev main_call1_v0 : Ref sig .tc := ⟨.hbm, 272, rfl⟩
abbrev main_v209 : Ref sig .tc := ⟨.hbm, 273, rfl⟩
abbrev main_c_58 : Ref sig .tc := ⟨.hbm, 274, rfl⟩
abbrev main_v210 : Ref sig .tc := ⟨.hbm, 275, rfl⟩
abbrev main_call2_cst : Ref sig .tc := ⟨.hbm, 276, rfl⟩
abbrev main_call2_v0 : Ref sig .tc := ⟨.hbm, 277, rfl⟩
abbrev main_call2_cst_0 : Ref sig .tc := ⟨.hbm, 278, rfl⟩
abbrev main_call2_v1 : Ref sig .tc := ⟨.hbm, 279, rfl⟩
abbrev main_call2_v2 : Ref sig .tc := ⟨.hbm, 280, rfl⟩
abbrev main_call2_v3 : Ref sig .tc := ⟨.hbm, 281, rfl⟩
abbrev main_call2_v4 : Ref sig .tc := ⟨.hbm, 282, rfl⟩
abbrev main_call2_v5 : Ref sig .tc := ⟨.hbm, 283, rfl⟩
abbrev main_call2_v6 : Ref sig .tc := ⟨.hbm, 284, rfl⟩
abbrev main_call2_cst_1 : Ref sig .tc := ⟨.hbm, 285, rfl⟩
abbrev main_call2_v7 : Ref sig .tc := ⟨.hbm, 286, rfl⟩
abbrev main_call2_v8 : Ref sig .tc := ⟨.hbm, 287, rfl⟩
abbrev main_call2_v9 : Ref sig .tc := ⟨.hbm, 288, rfl⟩
abbrev main_call2_v10 : Ref sig .tc := ⟨.hbm, 289, rfl⟩
abbrev main_v211 : Ref sig .tc := ⟨.hbm, 290, rfl⟩
abbrev main_v212 : Ref sig .tc := ⟨.hbm, 291, rfl⟩
abbrev main_call3_c : Ref sig .tc := ⟨.hbm, 292, rfl⟩
abbrev main_call3_v0 : Ref sig .tc := ⟨.hbm, 293, rfl⟩
abbrev main_call3_v1 : Ref sig .tc := ⟨.hbm, 294, rfl⟩
abbrev main_call3_c_0 : Ref sig .tc := ⟨.hbm, 295, rfl⟩
abbrev main_call3_v2 : Ref sig .tc := ⟨.hbm, 296, rfl⟩
abbrev main_call3_v3 : Ref sig .tc := ⟨.hbm, 297, rfl⟩
abbrev main_call3_v4 : Ref sig .tc := ⟨.hbm, 298, rfl⟩
abbrev main_call3_v5 : Ref sig .tc := ⟨.hbm, 299, rfl⟩
abbrev main_call3_c_1 : Ref sig .tc := ⟨.hbm, 300, rfl⟩
abbrev main_call3_c_2 : Ref sig .tc := ⟨.hbm, 301, rfl⟩
abbrev main_call3_v6 : Ref sig .tc := ⟨.hbm, 302, rfl⟩
abbrev main_call3_v7 : Ref sig .tc := ⟨.hbm, 303, rfl⟩
abbrev main_call3_v8 : Ref sig .tc := ⟨.hbm, 304, rfl⟩
abbrev main_call3_v9 : Ref sig .tc := ⟨.hbm, 305, rfl⟩
abbrev main_call3_v10 : Ref sig .tc := ⟨.hbm, 306, rfl⟩
abbrev main_call3_v11 : Ref sig .tc := ⟨.hbm, 307, rfl⟩
abbrev main_call3_c_3 : Ref sig .tc := ⟨.hbm, 308, rfl⟩
abbrev main_call3_v12 : Ref sig .tc := ⟨.hbm, 309, rfl⟩
abbrev main_call3_v13 : Ref sig .tc := ⟨.hbm, 310, rfl⟩
abbrev main_call3_cst : Ref sig .tc := ⟨.hbm, 311, rfl⟩
abbrev main_call3_v14 : Ref sig .tc := ⟨.hbm, 312, rfl⟩
abbrev main_v213 : Ref sig .tc := ⟨.hbm, 313, rfl⟩
abbrev main_v214 : Ref sig .tc := ⟨.hbm, 314, rfl⟩

abbrev nD : Nat := 1
abbrev τ : Topo := Topo.v7x

variable {F : FTy → Type} [FloatOps F]
-- ==== Proof.KernelFrame.lean ====
/-
  The frame of the kernel as it runs on the machine's words: every execution of @main ends, the two argument arrays are as
  they were, and every semaphore counter is back at zero. Nothing is said here of the values: the body is run once from
  buffers at any contents to buffers at any contents.
-/
module

public import proofs.«01_k».proof.Proof.Gen.Kernel.Frame
public import proofs.«01_k».proof.Proof.Gen.Kernel.Loops
public import proofs.«01_k».proof.Proof.Gen.Kernel.Skeleton
public import Idealize.ShloMosaic.Lib.Pipeline.Frame
public import Idealize.ShloMosaic.Lib.Pipeline.FrameSuffix
public import Idealize.ShloMosaic.Lib.Tactic

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A staging or scratch buffer owned at some contents. -/
abbrev any (c : Dev nD) {sp : Space} {S : Shape} {e : EltTy} (M : Memref sig .tc sp S e) : sProp 𝕄 :=
  iprop(∃ d, owns (c : Thread nD τ) M fullShare d)

set_option maxHeartbeats 4000000 in
/-- The body run at any point: from every operand owned at any contents it returns with every operand owned at some. -/
theorem body_run (c : Dev nD) (i : grid0.Coords) (arg1 : Memref sig .tc .vmem S32x8192 .f32) (harg1 : arg1.IsWhole)
    (arg2 : Memref sig .tc .vmem S32x8192 .i32) (harg2 : arg2.IsWhole) (arg3 : Memref sig .tc .vmem S32x1024 .f32) (harg3 : arg3.IsWhole)
    (arg4 : Memref sig .tc .vmem S32x1024 .i32) (harg4 : arg4.IsWhole) (arg5 : Memref sig .tc .vmem S32x1 .i32) (harg5 : arg5.IsWhole)
    (arg6 : Memref sig .tc .vmem S32x1 .f32) (harg6 : arg6.IsWhole) (arg7 : Memref sig .tc .vmem S32x2048 .f32) (harg7 : arg7.IsWhole)
    (arg8 : Memref sig .tc .vmem S32x2048 .i32) (harg8 : arg8.IsWhole) (arg9 : Memref sig .tc .vmem S32x2048 .f32) (harg9 : arg9.IsWhole)
    (K : PUnit → sProp 𝕄) :
    iprop(any c arg1 ∗ any c arg2 ∗ any c arg3 ∗ any c arg4 ∗ any c arg5 ∗ any c arg6 ∗ any c arg7 ∗ any c arg8 ∗ any c arg9
        ∗ (iprop(any c arg1 ∗ any c arg2 ∗ any c arg3 ∗ any c arg4 ∗ any c arg5 ∗ any c arg6 ∗ any c arg7 ∗ any c arg8 ∗ any c arg9) -∗ K ⟨⟩))
      ⊢ wp frame (wpE (defs₀ (F := F)) Variants.none c none) Set.univ
          (cc0__body i arg1 harg1 arg2 harg2 arg3 harg3 arg4 harg4 arg5 harg5 arg6 harg6 arg7 harg7 arg8 harg8 arg9 harg9) K := by
  simp only [cc0__body_eq_skeleton]; unfold cc0__body_skel any owns
  iintro ⟨⟨%d1, %f1, -, H1⟩, ⟨%d2, %f2, -, H2⟩, ⟨%d3, %f3, -, H3⟩, ⟨%d4, %f4, -, H4⟩, ⟨%d5, %f5, -, H5⟩, ⟨%d6, %f6, -, H6⟩,
    ⟨%d7, %f7, -, H7⟩, ⟨%d8, %f8, -, H8⟩, ⟨%d9, %f9, -, H9⟩, Hk⟩
  sl_exec
  sl_step
  iapply Hk
  isplitl [H1]; · iexists _, _; isplitr; swap; · iexact H1
                  ipureintro; rfl
  isplitl [H2]; · iexists _, _; isplitr; swap; · iexact H2
                  ipureintro; rfl
  isplitl [H3]; · iexists _, _; isplitr; swap; · iexact H3
                  ipureintro; rfl
  isplitl [H4]; · iexists _, _; isplitr; swap; · iexact H4
                  ipureintro; rfl
  isplitl [H5]; · iexists _, _; isplitr; swap; · iexact H5
                  ipureintro; rfl
  isplitl [H6]; · iexists _, _; isplitr; swap; · iexact H6
                  ipureintro; rfl
  isplitl [H7]; · iexists _, _; isplitr; swap; · iexact H7
                  ipureintro; rfl
  isplitl [H8]; · iexists _, _; isplitr; swap; · iexact H8
                  ipureintro; rfl
  iexists _, _; isplitr; swap; · iexact H9
  ipureintro; rfl

/-! ## The proof data and the body obligation -/

/-- Every window is forgotten: nothing here reads what the kernel leaves in a window. -/
def forgets0 : Fin cfg0.W → Bool := fun _ => true

/-- The proof data on core `c`: each window's array as the region finds it, contents after the body unnamed, the scratch and the
    generator register at some contents between points, nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q w := Pipeline.shareOf spec0 w
  owed _ := 0

/-- The arrays of the proof data are the ones the region finds. -/
theorem A_eq (c : Dev nD) (w : Fin cfg0.W) : (dats m 0 c).A w = V m c (Pipeline.arrRef spec0 w) := by dsimp only [dats]

/-- The invariant between points, conjunct by conjunct: the three scratch buffers and the generator register. -/
theorem PhiA0_eq (c : Dev nD) :
    (Pipeline.ΦA spec0 c : sProp 𝕄)
      = iprop(iprop(any (F := F) c (Memref.whole cc0_scratch0) ∗ any (F := F) c (Memref.whole cc0_scratch1) ∗ any (F := F) c (Memref.whole cc0_scratch2))
          ∗ (∃ r, prngReg c r)) := by
  unfold Pipeline.ΦA; rw [scopedRest0_eq]; simp only [any, owns_whole]; try rfl

/-- What the body is called with at point `t`. -/
def bodyPre (c : Dev nD) (t : Fin cfg0.N) : sProp 𝕄 :=
  iprop((dats m 0 c).Φ t.castSucc ∗ (dats m 0 c).owesAt () t.castSucc
    ∗ any c (win0_0.stage (cfg0.slots t 0)) ∗ any c (win0_1.stage (cfg0.slots t 1)) ∗ any c (win0_2.stage (cfg0.slots t 2))
    ∗ any c (win0_3.stage (cfg0.slots t 3)) ∗ any c (win0_4.stage (cfg0.slots t 4)) ∗ any c (win0_5.stage (cfg0.slots t 5)))
/-- What the body returns at point `t`. -/
def bodyPost (c : Dev nD) (t : Fin cfg0.N) : sProp 𝕄 :=
  iprop((dats m 0 c).Φ t.succ ∗ (dats m 0 c).owesAt () t.succ
    ∗ any c (win0_0.stage (cfg0.slots t 0)) ∗ any c (win0_1.stage (cfg0.slots t 1)) ∗ any c (win0_2.stage (cfg0.slots t 2))
    ∗ any c (win0_3.stage (cfg0.slots t 3)) ∗ any c (win0_4.stage (cfg0.slots t 4)) ∗ any c (win0_5.stage (cfg0.slots t 5)))

/-- The body at the point: the invariant opened, `body_run`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨H7, H8, H9⟩, Hg⟩, HO, H1, H2, H3, H4, H5, H6⟩
  iapply (body_run c _ _ _ _ _ _ _ _ _ _ _ _ _ _ _ _ _ _ _ _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H1, H2, H3, H4, H5, H6, H7, H8, H9⟩
  isplitl [H7 H8 H9 Hg]
  · isplitl [H7 H8 H9]
    · isplitl [H7]; · iexact H7
      isplitl [H8]; · iexact H8
      iexact H9
    iexact Hg
  isplitl [HO]; · iexact HO
  isplitl [H1]; · iexact H1
  isplitl [H2]; · iexact H2
  isplitl [H3]; · iexact H3
  isplitl [H4]; · iexact H4
  isplitl [H5]; · iexact H5
  iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation with every window forgotten. -/
theorem body_obligation (c : Dev nD) :
    BodyObligationLoose (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- The two buffers the operations after the region write. -/
def tailRefs : Finset (Ref sig .tc) := {main_v1, main_v2}

/-- Each operation after the region writes one of them. -/
theorem tail_in : ∀ ops ∈ ([hostOps1] : List (List (HloOp τ sig (Elt F)))), ∀ op ∈ ops, ∀ b : Ref sig .tc,
    Proc.devRef .tc b ∈ op.writes → b ∈ tailRefs := by
  intro ops hops op hop b hb
  simp only [List.mem_cons, List.mem_nil_iff, or_false] at hops
  rcases hops with rfl
  simp only [hostOps1, List.mem_cons, List.mem_nil_iff, or_false] at hop
  rcases hop with rfl | rfl
  all_goals
    simp only [StableHlo.reshape_writes, Finset.mem_singleton] at hb
    have hb' := Proc.devRef_injective _ hb
    subst hb'
    decide

set_option backward.isDefEq.respectTransparency.types false in
/-- From any memory with zero counters every execution of @main ends with every buffer that is neither written by the region nor by the
    operations after it at its launch contents, and every semaphore counter at zero. -/
theorem run_main :
    θ_run defs (onTc (τ := τ) (main (F := F))) (s₀ m ρ)
      (fun r => Pipeline.RDat.FramePostR (cfgs 0) (fun c => (dats m 0 c).toRForget forgets0) tailRefs (V m) r ∧ r.2.sem = fun _ => 0) :=
  Pipeline.θ_run_frame_around_T_forget_shared cfgs (dats m) (0 : Fin 1) launch₀0 defs₀ Variants.none forgets0 tailRefs m ρ main
    (body_obligation m) (fun _ _ _ => rfl) (fun _ _ => rfl) (V0 m) [hostOps1] sfx_sub sfx_fresh sfx_keeps tail_in
    (hmain m Variants.none) (A_eq m) (fun _ _ => rfl) _ (fun _ h => h)

/-- The frame: the two arguments are as they were and every counter is zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(Pipeline.RDat.FramePostR.arr_in h.1 c 2 rfl).trans (A_eq m c 2),
    (Pipeline.RDat.FramePostR.arr_in h.1 c 3 rfl).trans (A_eq m c 3)⟩, h.2⟩) (run_main m ρ)

end Cert.Kernel.Hand

end
-- ==== Proof.Cipher.lean ====
/-
  The random word of a counter: Threefry-2x32 at the key (0, 42) and the counter words (0, n), its two output words xored;
  and the noise read off a word.
-/
module

public import Idealize.ShloMosaic.PureOps

@[expose] public section

noncomputable section

namespace Cert.Cipher

open Idealize.ShloMosaic

/-- A word of 32 bits. -/
abbrev W := BitVec 32

/-- `b` rotated left by `r` (`s` is `32 - r`). -/
def rot (r s b : W) : W := IntOp.ori (IntOp.shli .vector b r) (IntOp.shrui .vector b s)
/-- A round whose first word is at hand. -/
def rndW (r s a b : W) : W × W := (a, IntOp.xori (rot r s b) a)
/-- One round. -/
def rnd (r s : W) (p : W × W) : W × W := rndW r s (IntOp.addi p.1 p.2) p.2
/-- The key words added between the groups of four rounds. -/
def inj (k l : W) (p : W × W) : W × W := (IntOp.addi p.1 k, IntOp.addi p.2 l)
/-- An even group of four rounds. -/
def quadA (p : W × W) : W × W := rnd 6#32 26#32 (rnd 26#32 6#32 (rnd 15#32 17#32 (rnd 13#32 19#32 p)))
/-- An odd group of four rounds. -/
def quadB (p : W × W) : W × W := rnd 24#32 8#32 (rnd 16#32 16#32 (rnd 29#32 3#32 (rnd 17#32 15#32 p)))
/-- The first group, at a counter whose second word, the key's added, is `x` (its first word is zero). -/
def g1 (x : W) : W × W := rnd 6#32 26#32 (rnd 26#32 6#32 (rnd 15#32 17#32 (rndW 13#32 19#32 x x)))
/-- The second group. -/
def g2 (p : W × W) : W × W := quadB (inj 42#32 (Scalar.addi 466689008#32 1#32) p)
/-- The third group. -/
def g3 (p : W × W) : W × W := quadA (inj 466689008#32 (Scalar.addi 0#32 2#32) p)
/-- The fourth group. -/
def g4 (p : W × W) : W × W := quadB (inj 0#32 (Scalar.addi 42#32 3#32) p)
/-- The fifth group. -/
def g5 (p : W × W) : W × W := quadA (inj 42#32 (Scalar.addi 466689008#32 4#32) p)
/-- The last key words added, and the two words xored. -/
def fin (p : W × W) : W := IntOp.xori (IntOp.addi p.1 466689008#32) (IntOp.addi p.2 (Scalar.addi 0#32 5#32))
/-- The word of the counter whose second word, the key's added, is `x`. -/
def word (x : W) : W := fin (g5 (g4 (g3 (g2 (g1 x)))))

variable {F : FTy → Type} [FloatOps F]

/-- The number in [1, 2) whose mantissa is the word's upper 23 bits. -/
def oneTo2 (w : W) : F .f32 := FloatOps.ofBits .f32 (IntOp.ori (IntOp.shrui .vector w 9#32) 1065353216#32)
/-- The logarithm of minus the logarithm of the uniform number, from the number in [1, 2). -/
def loglog (x : F .f32) : F .f32 :=
  FloatOps.log (FloatOps.subf (Scalar.ofBits .f32 0x00000000#32)
    (FloatOps.log (FloatOps.addf (FloatOps.subf x (Scalar.ofBits .f32 0x3F800000#32)) (Scalar.ofBits .f32 0x00800000#32))))
/-- The logit after the mask. -/
def masked (a : F .f32) (k : W) : F .f32 := Scalar.select (IntOp.cmpi .sgt k 0#32) a (Scalar.ofBits .f32 0xCE6E6B28#32)
/-- The masked logit with the noise of the counter. -/
def noisy (a : F .f32) (k x : W) : F .f32 := FloatOps.subf (masked a k) (loglog (oneTo2 (word x)))

end Cert.Cipher

end
-- ==== Proof.KernelWords.lean ====
/-
  The random words the kernel's body computes, in the two chunks of a trip, in the tail block and for the winning lane, are
  the words of `Cert.Cipher.word`; with them, what a chunk does to one lane and the noisy logits of the tail block.
-/
module

public import proofs.«01_k».proof.Proof.Gen.KernelIdeal.Skeleton
public import proofs.«01_k».proof.Proof.Cipher

@[expose] public section

set_option maxRecDepth 16384

noncomputable section

namespace Cert.KernelIdeal.Words

open Cert.KernelIdeal Cert.KernelIdeal.Gen Cert.Cipher
open Idealize.ShloMosaic

variable {F : FTy → Type} [FloatOps F] [Named F]

section Chunks

variable (arg0 : W) (v6 : IVec S32x2048 32) (c0 c1 : W) (t : Fin k0_t1_loop.trips) (j : S32x2048.Idx)

/-! ## The first chunk of a trip -/

theorem first1 : (k0_pay16 arg0 v6 c0 c1 t j, k0_pay17 arg0 v6 c0 c1 t j) = g1 (k0_pay10 arg0 v6 c0 c1 t j) := rfl

theorem first2 (v47 v53 : IVec S32x2048 32) :
    (k0_pay27 v47 v53 j, k0_pay28 v47 v53 j) =
      (fun q : W × W => (IntOp.addi q.1 q.2, rot 13#32 19#32 q.2)) (inj 466689008#32 (Scalar.addi 0#32 2#32) (g2 (v47 j, v53 j))) := rfl

theorem first3 (v92 v97 : IVec S32x2048 32) (p : W × W) (h : (v92 j, v97 j) = (fun q : W × W => (IntOp.addi q.1 q.2, rot 13#32 19#32 q.2)) p) :
    (k0_pay39 v92 v97 j, k0_pay40 v92 v97 j, k0_pay41 v92 v97 j, k0_pay42 j) =
      (fun q : W × W => (q.2, IntOp.addi q.1 q.2, IntOp.shli .vector q.2 16#32, 16#32))
        (rnd 29#32 3#32 (rnd 17#32 15#32 (inj 0#32 (Scalar.addi 42#32 3#32) (quadA p)))) := by
  have e : (k0_pay39 v92 v97 j, k0_pay40 v92 v97 j, k0_pay41 v92 v97 j, k0_pay42 j) =
      (fun q : W × W => (q.2, IntOp.addi q.1 q.2, IntOp.shli .vector q.2 16#32, 16#32))
        (rnd 29#32 3#32 (rnd 17#32 15#32 (inj 0#32 (Scalar.addi 42#32 3#32)
          (rnd 6#32 26#32 (rnd 26#32 6#32 (rnd 15#32 17#32 (v92 j, IntOp.xori (v97 j) (v92 j)))))))) := rfl
  obtain ⟨h1, h2⟩ := Prod.mk.inj h
  rw [e, h1, h2]; rfl

theorem first4 (v138 v139 v141 v142 : IVec S32x2048 32) (p : W × W)
    (h : (v138 j, v139 j, v141 j, v142 j) = (fun q : W × W => (q.2, IntOp.addi q.1 q.2, IntOp.shli .vector q.2 16#32, 16#32)) p) :
    IntOp.xori (k0_pay54 v138 v139 v141 v142 j) (IntOp.addi (k0_pay53 v138 v139 v141 v142 j) (Scalar.addi 0#32 5#32))
      = fin (g5 (rnd 24#32 8#32 (rnd 16#32 16#32 p))) := by
  have e : IntOp.xori (k0_pay54 v138 v139 v141 v142 j) (IntOp.addi (k0_pay53 v138 v139 v141 v142 j) (Scalar.addi 0#32 5#32))
      = fin (g5 (rnd 24#32 8#32 (v139 j, IntOp.xori (IntOp.ori (v141 j) (IntOp.shrui .vector (v138 j) (v142 j))) (v139 j)))) := rfl
  obtain ⟨h1, h⟩ := Prod.mk.inj h
  obtain ⟨h2, h⟩ := Prod.mk.inj h
  obtain ⟨h3, h4⟩ := Prod.mk.inj h
  rw [e, h1, h2, h3, h4]; rfl

/-- The word of the first chunk. -/
theorem first_word :
    let v47 := k0_pay16 arg0 v6 c0 c1 t; let v53 := k0_pay17 arg0 v6 c0 c1 t
    let v92 := k0_pay27 v47 v53; let v97 := k0_pay28 v47 v53
    let v138 := k0_pay39 v92 v97; let v139 := k0_pay40 v92 v97; let v141 := k0_pay41 v92 v97
    IntOp.xori (k0_pay54 v138 v139 v141 k0_pay42 j) (IntOp.addi (k0_pay53 v138 v139 v141 k0_pay42 j) (Scalar.addi 0#32 5#32))
      = word (k0_pay10 arg0 v6 c0 c1 t j) := by
  intro v47 v53 v92 v97 v138 v139 v141
  rw [first4 j v138 v139 v141 k0_pay42 _ (first3 j v92 v97 _ (first2 j v47 v53)), first1 arg0 v6 c0 c1 t j]; rfl

/-! ## The second chunk of a trip -/

theorem second5 (arg10 : W) :
    (k0_pay61 arg0 v6 arg10 j, k0_pay62 arg0 v6 arg10 j)
      = (fun q : W × W => (q.2, IntOp.addi q.1 q.2)) (rndW 13#32 19#32 (k0_pay60 arg0 v6 arg10 j) (k0_pay60 arg0 v6 arg10 j)) := rfl

theorem second6 (v230 v231 : IVec S32x2048 32) (p : W × W) (h : (v230 j, v231 j) = (fun q : W × W => (q.2, IntOp.addi q.1 q.2)) p) :
    (k0_pay72 v230 v231 15#32 j, k0_pay73 v230 v231 15#32 j)
      = rnd 16#32 16#32 (rnd 29#32 3#32 (rnd 17#32 15#32 (inj 42#32 (Scalar.addi 466689008#32 1#32)
          (rnd 6#32 26#32 (rnd 26#32 6#32 (rnd 15#32 17#32 p)))))) := by
  have e : (k0_pay72 v230 v231 15#32 j, k0_pay73 v230 v231 15#32 j)
      = rnd 16#32 16#32 (rnd 29#32 3#32 (rnd 17#32 15#32 (inj 42#32 (Scalar.addi 466689008#32 1#32)
          (rnd 6#32 26#32 (rnd 26#32 6#32 (rndW 15#32 17#32 (v231 j) (v230 j))))))) := rfl
  obtain ⟨h1, h2⟩ := Prod.mk.inj h
  rw [e, h1, h2]; rfl

theorem second7 (v271 v277 : IVec S32x2048 32) :
    (k0_pay84 v271 v277 j, IntOp.addi (k0_pay83 v271 v277 j) (k0_pay85 j))
      = inj 0#32 (Scalar.addi 42#32 3#32) (g3 (rnd 24#32 8#32 (v271 j, v277 j))) := rfl

theorem second8 (v317 v319 v321 : IVec S32x2048 32) (p : W × W) (h : (v319 j, IntOp.addi (v317 j) (v321 j)) = p) :
    (k0_pay96 v317 v319 v321 j, k0_pay97 v317 v319 v321 j, k0_pay98 v317 v319 v321 j, k0_pay99 j)
      = (fun q : W × W => (q.2, IntOp.addi q.1 q.2, IntOp.shli .vector q.2 15#32, 17#32))
          (rnd 13#32 19#32 (inj 42#32 (Scalar.addi 466689008#32 4#32) (quadB p))) := by
  subst h; rfl

theorem second9 (v362 v363 v365 v366 : IVec S32x2048 32) (v218 : FVec F S32x2048 .f32) (v220 : IVec S32x2048 32) (p : W × W)
    (h : (v362 j, v363 j, v365 j, v366 j) = (fun q : W × W => (q.2, IntOp.addi q.1 q.2, IntOp.shli .vector q.2 15#32, 17#32)) p) :
    k0_pay101 v218 v220 v362 v363 v365 v366 j
      = FloatOps.subf (masked (v218 j) (v220 j)) (loglog (oneTo2 (fin (rnd 6#32 26#32 (rnd 26#32 6#32 (rnd 15#32 17#32 p)))))) := by
  have e : k0_pay101 v218 v220 v362 v363 v365 v366 j
      = FloatOps.subf (masked (v218 j) (v220 j)) (loglog (oneTo2 (fin (rnd 6#32 26#32 (rnd 26#32 6#32
        (v363 j, IntOp.xori (IntOp.ori (v365 j) (IntOp.shrui .vector (v362 j) (v366 j))) (v363 j))))))) := rfl
  obtain ⟨h1, h⟩ := Prod.mk.inj h
  obtain ⟨h2, h⟩ := Prod.mk.inj h
  obtain ⟨h3, h4⟩ := Prod.mk.inj h
  rw [e, h1, h2, h3, h4]; rfl

/-- The noisy logit of the second chunk. -/
theorem second_noisy (arg10 : W) (v218 : FVec F S32x2048 .f32) (v220 : IVec S32x2048 32) :
    let v230 := k0_pay61 arg0 v6 arg10; let v231 := k0_pay62 arg0 v6 arg10
    let v271 := k0_pay72 v230 v231 15#32; let v277 := k0_pay73 v230 v231 15#32
    let v317 := k0_pay83 v271 v277; let v319 := k0_pay84 v271 v277
    let v362 := k0_pay96 v317 v319 k0_pay85; let v363 := k0_pay97 v317 v319 k0_pay85; let v365 := k0_pay98 v317 v319 k0_pay85
    k0_pay101 v218 v220 v362 v363 v365 k0_pay99 j = noisy (v218 j) (v220 j) (k0_pay60 arg0 v6 arg10 j) := by
  intro v230 v231 v271 v277 v317 v319 v362 v363 v365
  rw [second9 j v362 v363 v365 k0_pay99 v218 v220 _ (second8 j v317 v319 k0_pay85 _ (second7 j v271 v277)),
    second6 j v230 v231 _ (second5 arg0 v6 j arg10)]; rfl

end Chunks

/-! ## The tail block -/

section Tail

variable (j : S32x1024.Idx)

theorem tail10 : (k0_pay114 j, k0_pay115 j, k0_pay116 j)
    = (fun q : W × W => (q.2, IntOp.addi q.1 q.2, IntOp.shli .vector q.2 26#32)) (rnd 15#32 17#32 (rndW 13#32 19#32 (k0_pay111 j) (k0_pay111 j))) := rfl

theorem tail11 (v51 v52 v54 : IVec S32x1024 32) (p : W × W)
    (h : (v51 j, v52 j, v54 j) = (fun q : W × W => (q.2, IntOp.addi q.1 q.2, IntOp.shli .vector q.2 26#32)) p) :
    (k0_pay126 v51 v52 v54 j, k0_pay127 v51 v52 v54 j) = g2 (rnd 6#32 26#32 (rnd 26#32 6#32 p)) := by
  have e : (k0_pay126 v51 v52 v54 j, k0_pay127 v51 v52 v54 j)
      = g2 (rnd 6#32 26#32 (v52 j, IntOp.xori (IntOp.ori (v54 j) (IntOp.shrui .vector (v51 j) 6#32)) (v52 j))) := rfl
  obtain ⟨h1, h⟩ := Prod.mk.inj h
  obtain ⟨h2, h3⟩ := Prod.mk.inj h
  rw [e, h1, h2, h3]; rfl

theorem tail12 (v92 v98 : IVec S32x1024 32) :
    (k0_pay139 v92 v98 k0_pay128 j, k0_pay140 v92 v98 k0_pay128 j)
      = (fun q : W × W => (q.2, IntOp.addi q.1 q.2)) (rnd 17#32 15#32 (inj 0#32 (Scalar.addi 42#32 3#32) (g3 (v92 j, v98 j)))) := rfl

theorem tail13 (v143 v144 : IVec S32x1024 32) (p : W × W) (h : (v143 j, v144 j) = (fun q : W × W => (q.2, IntOp.addi q.1 q.2)) p) :
    (k0_pay150 v143 v144 j, k0_pay151 v143 v144 j)
      = (fun q : W × W => (IntOp.addi q.1 q.2, rot 26#32 6#32 q.2))
        (rnd 15#32 17#32 (rnd 13#32 19#32 (inj 42#32 (Scalar.addi 466689008#32 4#32) (rnd 24#32 8#32 (rnd 16#32 16#32 (rnd 29#32 3#32 p)))))) := by
  have e : (k0_pay150 v143 v144 j, k0_pay151 v143 v144 j)
      = (fun q : W × W => (IntOp.addi q.1 q.2, rot 26#32 6#32 q.2))
        (rnd 15#32 17#32 (rnd 13#32 19#32 (inj 42#32 (Scalar.addi 466689008#32 4#32) (rnd 24#32 8#32 (rnd 16#32 16#32 (rndW 29#32 3#32 (v144 j) (v143 j))))))) := rfl
  obtain ⟨h1, h2⟩ := Prod.mk.inj h
  rw [e, h1, h2]; rfl

/-- The noisy logit of the tail block. -/
theorem tail_noisy (v217 : IVec S32x1024 32) (v221 : FVec F S32x1024 .f32) :
    let v51 := k0_pay114; let v52 := k0_pay115; let v54 := k0_pay116
    let v92 := k0_pay126 v51 v52 v54; let v98 := k0_pay127 v51 v52 v54
    let v143 := k0_pay139 v92 v98 k0_pay128; let v144 := k0_pay140 v92 v98 k0_pay128
    let v184 := k0_pay150 v143 v144; let v189 := k0_pay151 v143 v144
    k0_pay153 k0_pay110 v184 v189 v217 v221 j
      = FloatOps.subf (k0_pay152 k0_pay110 v217 v221 j) (loglog (oneTo2 (word (k0_pay111 j)))) := by
  intro v51 v52 v54 v92 v98 v143 v144 v184 v189
  have e : k0_pay153 k0_pay110 v184 v189 v217 v221 j
      = FloatOps.subf (k0_pay152 k0_pay110 v217 v221 j) (loglog (oneTo2 (fin (rnd 6#32 26#32 (v184 j, IntOp.xori (v189 j) (v184 j)))))) := rfl
  have h : (v184 j, v189 j) = _ := tail13 j v143 v144 _ (tail12 j v92 v98)
  obtain ⟨h1, h2⟩ := Prod.mk.inj h
  rw [e, h1, h2, tail11 j v51 v52 v54 _ (tail10 j)]; rfl

end Tail

/-! ## The winning lane -/

section Winner

variable (j : S32x1.Idx)

theorem win15 (v18 : FVec F S32x1 .f32) (v24 : IVec S32x1 32) (v38 : IVec S32x1024 32) (v228 : FVec F S32x1 .f32) (v230 : IVec S32x1024 1) (c : W) :
    (k0_pay165 v18 v24 v38 v228 v230 c j, k0_pay166 v18 v24 v38 v228 v230 c j, k0_pay167 v18 v24 v38 v228 v230 c j)
      = (fun q : W × W => (q.2, IntOp.addi q.1 q.2, IntOp.shli .vector q.2 17#32))
        (inj 42#32 (Scalar.addi 466689008#32 1#32) (g1 (k0_pay157 v18 v24 v38 v228 v230 c j))) := rfl

theorem win16 (v273 v274 v276 : IVec S32x1 32) (p : W × W)
    (h : (v273 j, v274 j, v276 j) = (fun q : W × W => (q.2, IntOp.addi q.1 q.2, IntOp.shli .vector q.2 17#32)) p) :
    (k0_pay178 v273 v274 v276 j, k0_pay179 v273 v274 v276 j)
      = (fun q : W × W => (q.2, IntOp.addi q.1 q.2)) (rnd 15#32 17#32 (rnd 13#32 19#32 (inj 466689008#32 (Scalar.addi 0#32 2#32) (quadB p)))) := by
  have e : (k0_pay178 v273 v274 v276 j, k0_pay179 v273 v274 v276 j)
      = (fun q : W × W => (q.2, IntOp.addi q.1 q.2)) (rnd 15#32 17#32 (rnd 13#32 19#32 (inj 466689008#32 (Scalar.addi 0#32 2#32)
        (rnd 24#32 8#32 (rnd 16#32 16#32 (rnd 29#32 3#32 (v274 j, IntOp.xori (IntOp.ori (v276 j) (IntOp.shrui .vector (v273 j) 15#32)) (v274 j)))))))) := rfl
  obtain ⟨h1, h⟩ := Prod.mk.inj h
  obtain ⟨h2, h3⟩ := Prod.mk.inj h
  rw [e, h1, h2, h3]; rfl

theorem win17 (v320 v321 : IVec S32x1 32) (p : W × W) (h : (v320 j, v321 j) = (fun q : W × W => (q.2, IntOp.addi q.1 q.2)) p) :
    (k0_pay189 v320 v321 26#32 j, k0_pay190 v320 v321 26#32 j) = g4 (rnd 6#32 26#32 (rnd 26#32 6#32 p)) := by
  have e : (k0_pay189 v320 v321 26#32 j, k0_pay190 v320 v321 26#32 j) = g4 (rnd 6#32 26#32 (rndW 26#32 6#32 (v321 j) (v320 j))) := rfl
  obtain ⟨h1, h2⟩ := Prod.mk.inj h
  rw [e, h1, h2]; rfl

theorem win18 (v361 v367 : IVec S32x1 32) : (k0_pay191 v361 v367 j : F .f32) = oneTo2 (fin (g5 (v361 j, v367 j))) := rfl

/-- The winning lane's number in [1, 2). -/
theorem win_word (v18 : FVec F S32x1 .f32) (v24 : IVec S32x1 32) (v38 : IVec S32x1024 32) (v228 : FVec F S32x1 .f32) (v230 : IVec S32x1024 1) (c : W) :
    let v273 := k0_pay165 v18 v24 v38 v228 v230 c; let v274 := k0_pay166 v18 v24 v38 v228 v230 c; let v276 := k0_pay167 v18 v24 v38 v228 v230 c
    let v320 := k0_pay178 v273 v274 v276; let v321 := k0_pay179 v273 v274 v276
    (k0_pay191 (k0_pay189 v320 v321 26#32) (k0_pay190 v320 v321 26#32) j : F .f32)
      = oneTo2 (word (k0_pay157 v18 v24 v38 v228 v230 c j)) := by
  intro v273 v274 v276 v320 v321
  rw [win18, win17 j v320 v321 _ (win16 j v273 v274 v276 _ (win15 j v18 v24 v38 v228 v230 c))]; rfl

end Winner

end Cert.KernelIdeal.Words

end
-- ==== Proof.Lanes.lean ====
/-
  One lane of the kernel's running state: the largest noisy logit seen, the counter at which it was first seen, and the sum of
  the exponentials of the masked logits; how one more column changes it.
-/
module

public import proofs.«01_k».proof.Proof.Cipher

@[expose] public section

noncomputable section

namespace Cert.Lanes

open Cert.Cipher
open Idealize.ShloMosaic

variable {F : FTy → Type} [FloatOps F]

/-- The state of a lane: the largest noisy logit, its counter, the sum of exponentials. -/
abbrev Lane (F : FTy → Type) := F .f32 × W × F .f32

/-- One more column: logit `a`, mask `k`, counter `x`. -/
def step (a : F .f32) (k x : W) (s : Lane F) : Lane F :=
  (FloatOps.maximumf (noisy a k x) s.1, Scalar.select (FloatOps.cmpf .ogt (noisy a k x) s.1) x s.2.1,
    FloatOps.addf s.2.2 (FloatOps.exp (masked a k)))

/-- The counter of row `r`'s column `n`, the key's added. -/
def ctr (r n : ℕ) : W := BitVec.ofNat 32 (r * 1000000 + n + 42)

end Cert.Lanes

end
-- ==== Proof.Trip.lean ====
/-
  One trip of the kernel's loop, lane by lane: two columns, 2048 apart, are taken into the lane's running state.
-/
module

public import proofs.«01_k».proof.Proof.Gen.KernelIdeal.Loops
public import proofs.«01_k».proof.Proof.KernelWords
public import proofs.«01_k».proof.Proof.Lanes
public import Idealize.ShloMosaic.Lib.VecWindow
public import Idealize.ShloMosaic.Lib.Pointwise.Index
public import Idealize.ShloMosaic.Lib.Pipeline.Value
public import Idealize.ShloMosaic.Lib.Tactic

@[expose] public section

set_option maxRecDepth 16384

noncomputable section

namespace Cert.KernelIdeal.Trip

open Cert.KernelIdeal Cert.KernelIdeal.Gen Cert.Cipher Cert.Lanes
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The blocks and the scratch buffers of a trip, held at given contents. -/
abbrev held5 (c : Dev nD) (arg1 : Memref sig .tc .vmem S32x8192 .f32) (arg2 : Memref sig .tc .vmem S32x8192 .i32)
    (arg7 : Memref sig .tc .vmem S32x2048 .f32) (arg8 : Memref sig .tc .vmem S32x2048 .i32) (arg9 : Memref sig .tc .vmem S32x2048 .f32)
    (f1 : BufTy.Contents (Elt F) arg1.view.ty) (f2 : BufTy.Contents (Elt F) arg2.view.ty)
    (f7 : BufTy.Contents (Elt F) arg7.view.ty) (f8 : BufTy.Contents (Elt F) arg8.view.ty) (f9 : BufTy.Contents (Elt F) arg9.view.ty) : sProp 𝕄 :=
  iprop((arg1.view.loc (c : Thread nD τ) ↦[arg1.view.set]{fullShare} f1) ∗ (arg2.view.loc (c : Thread nD τ) ↦[arg2.view.set]{fullShare} f2)
    ∗ (arg7.view.loc (c : Thread nD τ) ↦[arg7.view.set]{fullShare} f7) ∗ (arg8.view.loc (c : Thread nD τ) ↦[arg8.view.set]{fullShare} f8)
    ∗ (arg9.view.loc (c : Thread nD τ) ↦[arg9.view.set]{fullShare} f9))

/-- Where a trip's first load starts. -/
theorem off_first : ∀ k : Fin k0_t1_loop.trips, k0_off1 k 0#32 = ![0, 4096 * k.val] := by decide +kernel
/-- Where a trip's second load starts. -/
theorem off_second : ∀ k : Fin k0_t1_loop.trips, k0_off1 k 2048#32 = ![0, 4096 * k.val + 2048] := by decide +kernel

/-- Column `n` of a block of 8192, on the row of `j`. -/
def at8192 (j : S32x2048.Idx) (n : ℕ) : S32x8192.Idx :=
  ix2 (n0 := 32) (n1 := 8192) (j 0) ⟨n % 8192, Nat.mod_lt _ (by decide)⟩

/-- A trip's load, at an index. -/
theorem load_apply {e : EltTy} (v : View sig .tc .vmem S32x8192 e) (f : v.ty.Contents (Elt F)) (off : Fin 2 → ℕ) (n : ℕ) (h : off = ![0, n])
    (inb : ∀ a, off a + S32x2048.size a ≤ S32x8192.size a) (j : S32x2048.Idx) :
    v.readAt (Elt F) (Rect.unit (s := S32x8192) off S32x2048.size inb).toLoadRect f j
      = v.read (Elt F) f (at8192 j (n + (j 1).val)) := by
  subst h
  have h1 : (j 1).val < 2048 := (j 1).isLt
  have h2 : n + 2048 ≤ 8192 := inb 1
  refine congrArg (v.read (Elt F) f) (funext fun a => Fin.ext ?_)
  match a with
  | ⟨0, _⟩ => show 0 + 1 * (j 0).val = (j 0).val; omega
  | ⟨1, _⟩ => show n + 1 * (j 1).val = (n + (j 1).val) % 8192; omega

/-- What a lane's three scratch buffers hold. -/
def laneOf (v7 : View sig .tc .vmem S32x2048 .f32) (v8 : View sig .tc .vmem S32x2048 .i32) (v9 : View sig .tc .vmem S32x2048 .f32)
    (f7 : v7.ty.Contents (Elt F)) (f8 : v8.ty.Contents (Elt F)) (f9 : v9.ty.Contents (Elt F)) (j : S32x2048.Idx) : Lane F :=
  (v7.read (Elt F) f7 j, v8.read (Elt F) f8 j, v9.read (Elt F) f9 j)

/-- The counter of a lane at column `o` of a block. -/
def xAt (arg0 : W) (j : S32x2048.Idx) (o : W) : W := IntOp.addi (k0_pay1 j) (Scalar.addi (Scalar.muli arg0 8192#32) o)

/-- What one trip does to a lane, of a block with logits `A` and masks `K`. -/
def tripL (A : FVec F S32x8192 .f32) (K : IVec S32x8192 32) (arg0 : W) (k : ℕ) (j : S32x2048.Idx) (s : Lane F) : Lane F :=
  let o1 := 4096 * k + (j 1).val
  let o2 := 4096 * k + 2048 + (j 1).val
  step (A (at8192 j o2)) (K (at8192 j o2)) (xAt arg0 j (Scalar.addi (Scalar.muli (Scf.iv 0#32 1#32 k) 4096#32) 2048#32))
    (step (A (at8192 j o1)) (K (at8192 j o1)) (xAt arg0 j (Scalar.addi (Scalar.muli (Scf.iv 0#32 1#32 k) 4096#32) 0#32)) s)

/-- The two chunks' payloads, at a lane, are two steps of the running state. -/
theorem chunks (arg0 c0 c1 arg10 : W) (v6 : IVec S32x2048 32) (t : Fin k0_t1_loop.trips) (j : S32x2048.Idx) (v14 v16 v20 v218 : FVec F S32x2048 .f32)
    (v15 v22 v220 : IVec S32x2048 32) :
    let v47 := k0_pay16 arg0 v6 c0 c1 t; let v53 := k0_pay17 arg0 v6 c0 c1 t
    let v92 := k0_pay27 v47 v53; let v97 := k0_pay28 v47 v53
    let v138 := k0_pay39 v92 v97; let v139 := k0_pay40 v92 v97; let v141 := k0_pay41 v92 v97
    let v185 := k0_pay53 v138 v139 v141 k0_pay42; let v187 := k0_pay54 v138 v139 v141 k0_pay42
    let v26 := k0_pay10 arg0 v6 c0 c1 t
    let v211 := k0_pay57 v14 v15 v20 v22 v26 v185 v187 0#32; let v212 := k0_pay58 v14 v20 v22 v185 v187 0#32; let v214 := k0_pay59 v16 v20 v22
    let v224 := k0_pay60 arg0 v6 arg10
    let v230 := k0_pay61 arg0 v6 arg10; let v231 := k0_pay62 arg0 v6 arg10
    let v271 := k0_pay72 v230 v231 15#32; let v277 := k0_pay73 v230 v231 15#32
    let v317 := k0_pay83 v271 v277; let v319 := k0_pay84 v271 v277
    let v362 := k0_pay96 v317 v319 k0_pay85; let v363 := k0_pay97 v317 v319 k0_pay85; let v365 := k0_pay98 v317 v319 k0_pay85
    (k0_pay103 v212 v218 v220 v362 v363 v365 k0_pay99 j, k0_pay102 v211 v212 v218 v220 v224 v362 v363 v365 k0_pay99 j, k0_pay104 v214 v218 v220 j)
      = step (v218 j) (v220 j) (v224 j) (step (v20 j) (v22 j) (v26 j) (v14 j, v15 j, v16 j)) := by
  intro v47 v53 v92 v97 v138 v139 v141 v185 v187 v26 v211 v212 v214 v224 v230 v231 v271 v277 v317 v319 v362 v363 v365
  have h1 : k0_pay56 v20 v22 v185 v187 0#32 j = noisy (v20 j) (v22 j) (v26 j) := by
    have e : k0_pay56 v20 v22 v185 v187 0#32 j
        = FloatOps.subf (masked (v20 j) (v22 j)) (loglog (oneTo2 (IntOp.xori (v187 j) (IntOp.addi (v185 j) (Scalar.addi 0#32 5#32))))) := rfl
    rw [e, Words.first_word arg0 v6 c0 c1 t j]; rfl
  have h2 : k0_pay101 v218 v220 v362 v363 v365 k0_pay99 j = noisy (v218 j) (v220 j) (v224 j) := Words.second_noisy arg0 v6 j arg10 v218 v220
  have e1 : v212 j = FloatOps.maximumf (k0_pay56 v20 v22 v185 v187 0#32 j) (v14 j) := rfl
  have e2 : v211 j = Scalar.select (FloatOps.cmpf .ogt (k0_pay56 v20 v22 v185 v187 0#32 j) (v14 j)) (v26 j) (v15 j) := rfl
  have e3 : k0_pay103 v212 v218 v220 v362 v363 v365 k0_pay99 j = FloatOps.maximumf (k0_pay101 v218 v220 v362 v363 v365 k0_pay99 j) (v212 j) := rfl
  have e4 : k0_pay102 v211 v212 v218 v220 v224 v362 v363 v365 k0_pay99 j
      = Scalar.select (FloatOps.cmpf .ogt (k0_pay101 v218 v220 v362 v363 v365 k0_pay99 j) (v212 j)) (v224 j) (v211 j) := rfl
  rw [e3, e4, h2, e2, e1, h1]; rfl

/-- One trip: what the three scratch buffers hold after it, lane by lane. -/
theorem trip_run (c : Dev nD) (i : grid0.Coords) (arg1 : Memref sig .tc .vmem S32x8192 .f32) (harg1 : arg1.IsWhole)
    (arg2 : Memref sig .tc .vmem S32x8192 .i32) (harg2 : arg2.IsWhole) (arg3 : Memref sig .tc .vmem S32x1024 .f32) (harg3 : arg3.IsWhole)
    (arg4 : Memref sig .tc .vmem S32x1024 .i32) (harg4 : arg4.IsWhole) (arg5 : Memref sig .tc .vmem S32x1 .i32) (harg5 : arg5.IsWhole)
    (arg6 : Memref sig .tc .vmem S32x1 .f32) (harg6 : arg6.IsWhole) (arg7 : Memref sig .tc .vmem S32x2048 .f32) (harg7 : arg7.IsWhole)
    (arg8 : Memref sig .tc .vmem S32x2048 .i32) (harg8 : arg8.IsWhole) (arg9 : Memref sig .tc .vmem S32x2048 .f32) (harg9 : arg9.IsWhole)
    (arg0 : W) (k : Fin k0_t1_loop.trips) (E : Set ℕ)
    (f1 : BufTy.Contents (Elt F) arg1.view.ty) (f2 : BufTy.Contents (Elt F) arg2.view.ty)
    (f7 : BufTy.Contents (Elt F) arg7.view.ty) (f8 : BufTy.Contents (Elt F) arg8.view.ty) (f9 : BufTy.Contents (Elt F) arg9.view.ty) :
    held5 (F := F) c arg1 arg2 arg7 arg8 arg9 f1 f2 f7 f8 f9
      ⊢ wp frame (wpE (defs₀ (F := F)) Variants.none (c : Thread nD τ) none) E
        (k0_t1_body (F := F) i arg1 harg1 arg2 harg2 arg3 harg3 arg4 harg4 arg5 harg5 arg6 harg6 arg7 harg7 arg8 harg8 arg9 harg9 arg0 k PUnit.unit)
          (fun _ => iprop(∃ g7 g8 g9, ⌜∀ j, laneOf (F := F) arg7.view arg8.view arg9.view g7 g8 g9 j = tripL (arg1.view.read (Elt F) f1) (arg2.view.read (Elt F) f2) arg0 k.val j (laneOf (F := F) arg7.view arg8.view arg9.view f7 f8 f9 j)⌝ ∗ held5 (F := F) c arg1 arg2 arg7 arg8 arg9 f1 f2 g7 g8 g9)) := by
  have hk : k.val < 2 := Nat.lt_of_lt_of_le k.isLt k0_t1_abs.2.1
  unfold k0_t1_body
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  simp only [k0_part1_skel, k0_part2_skel, k0_part3_skel, k0_part4_skel, k0_part5_skel, k0_part6_skel, k0_part7_skel, k0_part8_skel, k0_part9_skel, pure_bind, bind_assoc]
  iintro ⟨H1, H2, H7, H8, H9⟩
  sl_exec
  sl_step
  iexists _, _, _
  isplitr
  swap
  · isplitl [H1]; · iexact H1
    isplitl [H2]; · iexact H2
    isplitl [H7]; · iexact H7
    isplitl [H8]; · iexact H8
    iexact H9
  ipureintro
  intro j
  unfold laneOf
  rw [View.read_writes_full (s := S32x2048), View.read_writes_full (s := S32x2048), View.read_writes_full (s := S32x2048)]
  simp only [k0_pay5, k0_pay6, k0_pay7, shapeCast_self]
  refine (chunks (F := F) arg0 0#32 1#32 (Scf.iv 0#32 1#32 k.val) k0_pay1 k j _ _ _ _ _ _ _).trans ?_
  rw [View.readAt_full (s := S32x2048), View.readAt_full (s := S32x2048), View.readAt_full (s := S32x2048),
    load_apply arg1.view f1 _ _ (off_second k), load_apply arg2.view f2 _ _ (off_second k),
    load_apply arg1.view f1 _ _ (off_first k), load_apply arg2.view f2 _ _ (off_first k)]
  rfl

/-- A lane after the first `n` trips of a point. -/
def tripsL (A : FVec F S32x8192 .f32) (K : IVec S32x8192 32) (arg0 : W) : ℕ → (S32x2048.Idx → Lane F) → S32x2048.Idx → Lane F
  | 0, s => s
  | n + 1, s => fun j => tripL A K arg0 n j (tripsL A K arg0 n s j)

/-- The loop's invariant: the blocks as they were, the scratch buffers holding each lane's state after the trips so far. -/
abbrev inv (c : Dev nD) (arg1 : Memref sig .tc .vmem S32x8192 .f32) (arg2 : Memref sig .tc .vmem S32x8192 .i32)
    (arg7 : Memref sig .tc .vmem S32x2048 .f32) (arg8 : Memref sig .tc .vmem S32x2048 .i32) (arg9 : Memref sig .tc .vmem S32x2048 .f32)
    (arg0 : W) (X_arg1 : BufTy.Contents (Elt F) arg1.view.ty) (X_arg2 : BufTy.Contents (Elt F) arg2.view.ty) (L : S32x2048.Idx → Lane F) (k : ℕ) : sProp 𝕄 :=
  iprop((arg1.view.loc (c : Thread nD τ) ↦[arg1.view.set]{fullShare} X_arg1) ∗ (arg2.view.loc (c : Thread nD τ) ↦[arg2.view.set]{fullShare} X_arg2)
    ∗ (∃ f7 f8 f9, (arg7.view.loc (c : Thread nD τ) ↦[arg7.view.set]{fullShare} f7) ∗ (arg8.view.loc (c : Thread nD τ) ↦[arg8.view.set]{fullShare} f8)
      ∗ (arg9.view.loc (c : Thread nD τ) ↦[arg9.view.set]{fullShare} f9)
      ∗ ⌜laneOf (F := F) arg7.view arg8.view arg9.view f7 f8 f9 = tripsL (arg1.view.read (Elt F) X_arg1) (arg2.view.read (Elt F) X_arg2) arg0 k L⌝))

set_option warn.classDefReducibility false in
/-- The loop by its invariant. -/
@[sl_loop] def loopInv (c : Dev nD) (E : Set ℕ) (i : grid0.Coords) (arg1 : Memref sig .tc .vmem S32x8192 .f32) (harg1 : arg1.IsWhole)
    (arg2 : Memref sig .tc .vmem S32x8192 .i32) (harg2 : arg2.IsWhole) (arg3 : Memref sig .tc .vmem S32x1024 .f32) (harg3 : arg3.IsWhole)
    (arg4 : Memref sig .tc .vmem S32x1024 .i32) (harg4 : arg4.IsWhole) (arg5 : Memref sig .tc .vmem S32x1 .i32) (harg5 : arg5.IsWhole)
    (arg6 : Memref sig .tc .vmem S32x1 .f32) (harg6 : arg6.IsWhole) (arg7 : Memref sig .tc .vmem S32x2048 .f32) (harg7 : arg7.IsWhole)
    (arg8 : Memref sig .tc .vmem S32x2048 .i32) (harg8 : arg8.IsWhole) (arg9 : Memref sig .tc .vmem S32x2048 .f32) (harg9 : arg9.IsWhole)
    (arg0 : W)
    (X_arg1 : BufTy.Contents (Elt F) arg1.view.ty) (X_arg2 : BufTy.Contents (Elt F) arg2.view.ty) (L : S32x2048.Idx → Lane F) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg0 where
  inv k _ := inv c arg1 arg2 arg7 arg8 arg9 arg0 X_arg1 X_arg2 L k
  step k acc := by
    iintro ⟨H1, H2, ⟨%f7, %f8, %f9, H7, H8, H9, %h⟩⟩
    iapply (wp_wand_r Idealize.ShloMosaic.frame (wpE (defs₀ (F := F)) Variants.none (c : Thread nD τ) none) E)
    isplitl [H1 H2 H7 H8 H9]
    · iapply (trip_run (F := F) c i arg1 harg1 arg2 harg2 arg3 harg3 arg4 harg4 arg5 harg5 arg6 harg6 arg7 harg7 arg8 harg8 arg9 harg9 arg0 k E X_arg1 X_arg2 f7 f8 f9)
      isplitl [H1]; · iexact H1
      isplitl [H2]; · iexact H2
      isplitl [H7]; · iexact H7
      isplitl [H8]; · iexact H8
      iexact H9
    · iintro %_ ⟨%g7, %g8, %g9, %hg, H1, H2, H7, H8, H9⟩
      isplitl [H1]; · iexact H1
      isplitl [H2]; · iexact H2
      iexists g7, g8, g9
      isplitl [H7]; · iexact H7
      isplitl [H8]; · iexact H8
      isplitl [H9]; · iexact H9
      ipureintro
      funext j
      rw [hg j, congrFun h j]; rfl

end Cert.KernelIdeal.Trip

end
-- ==== Proof.Finish.lean ====
/-
  What the kernel's last grid point writes, as the body computes it: from each lane's running state and the tail block of
  logits and masks, the sampled column and its log-probability, row by row.
-/
module

public import proofs.«01_k».proof.Proof.KernelWords
public import proofs.«01_k».proof.Proof.Lanes

@[expose] public section

set_option maxRecDepth 16384

noncomputable section

namespace Cert.KernelIdeal.Finish

open Cert.KernelIdeal Cert.KernelIdeal.Gen Cert.Cipher Cert.Lanes
open Idealize.ShloMosaic

variable {F : FTy → Type} [FloatOps F] [Named F]

/-! ## The tail block's words, part by part -/

def w92 : IVec S32x1024 32 := k0_pay126 k0_pay114 k0_pay115 k0_pay116
def w98 : IVec S32x1024 32 := k0_pay127 k0_pay114 k0_pay115 k0_pay116
def w143 : IVec S32x1024 32 := k0_pay139 w92 w98 k0_pay128
def w144 : IVec S32x1024 32 := k0_pay140 w92 w98 k0_pay128
def w184 : IVec S32x1024 32 := k0_pay150 w143 w144
def w189 : IVec S32x1024 32 := k0_pay151 w143 w144

/-! ## The rows -/

/-- The counter of the winning entry of each row. -/
def winner (r : FVec F S32x2048 .f32) (x : IVec S32x2048 32) (a : FVec F S32x1024 .f32) (k : IVec S32x1024 32) : IVec S32x1 32 :=
  k0_pay157 (k0_pay105 r) (k0_pay106 r x) k0_pay111 (k0_pay154 k0_pay110 w184 w189 k a) (k0_pay155 k0_pay110 w184 w189 k a) 2147483647#32

/-- The number in [1, 2) of the winning entry of each row. -/
def winBits (r : FVec F S32x2048 .f32) (x : IVec S32x2048 32) (a : FVec F S32x1024 .f32) (k : IVec S32x1024 32) : FVec F S32x1 .f32 :=
  let v18 := k0_pay105 r; let v24 := k0_pay106 r x
  let v228 := k0_pay154 k0_pay110 w184 w189 k a; let v230 := k0_pay155 k0_pay110 w184 w189 k a
  let v273 := k0_pay165 v18 v24 k0_pay111 v228 v230 2147483647#32; let v274 := k0_pay166 v18 v24 k0_pay111 v228 v230 2147483647#32
  let v276 := k0_pay167 v18 v24 k0_pay111 v228 v230 2147483647#32
  let v320 := k0_pay178 v273 v274 v276; let v321 := k0_pay179 v273 v274 v276
  k0_pay191 (k0_pay189 v320 v321 26#32) (k0_pay190 v320 v321 26#32)

/-- The sampled column of each row. -/
def sample (r : FVec F S32x2048 .f32) (x : IVec S32x2048 32) (a : FVec F S32x1024 .f32) (k : IVec S32x1024 32) : IVec S32x1 32 :=
  k0_pay8 (winner r x a k)

/-- Its log-probability. -/
def logp (r : FVec F S32x2048 .f32) (x : IVec S32x2048 32) (s : FVec F S32x2048 .f32) (a : FVec F S32x1024 .f32) (k : IVec S32x1024 32) : FVec F S32x1 .f32 :=
  k0_pay9 (k0_pay156 (k0_pay105 r) (k0_pay154 k0_pay110 w184 w189 k a)) (k0_pay158 (k0_pay107 s) (k0_pay152 k0_pay110 k a)) (winBits r x a k)

/-- A row's log-probability off the greatest values, the sums and the winner's number. -/
theorem logp_apply (r : FVec F S32x2048 .f32) (x : IVec S32x2048 32) (s : FVec F S32x2048 .f32) (a : FVec F S32x1024 .f32)
    (k : IVec S32x1024 32) (j : S32x1.Idx) :
    logp r x s a k j
      = FloatOps.subf (FloatOps.addf (FloatOps.maximumf (k0_pay105 r j) (k0_pay154 k0_pay110 w184 w189 k a j)) (loglog (winBits r x a k j)))
          (FloatOps.log (k0_pay158 (k0_pay107 s) (k0_pay152 k0_pay110 k a) j)) := by
  unfold logp
  generalize winBits r x a k = b
  generalize k0_pay158 (k0_pay107 s) (k0_pay152 k0_pay110 k a) = S
  generalize k0_pay105 r = M1
  generalize k0_pay154 k0_pay110 w184 w189 k a = M2
  rfl

end Cert.KernelIdeal.Finish

end
-- ==== Proof.Body.lean ====
/-
  The kernel's body at any grid point, as a run: what the scratch buffers hold after it, lane by lane, and what the last point
  writes to the two result blocks.
-/
module

public import proofs.«01_k».proof.Proof.Gen.KernelIdeal.Frame
public import proofs.«01_k».proof.Proof.Trip
public import proofs.«01_k».proof.Proof.Finish

@[expose] public section

set_option maxRecDepth 16384

noncomputable section

namespace Cert.KernelIdeal.Body

open Cert.KernelIdeal Cert.KernelIdeal.Gen Cert.Cipher Cert.Lanes Cert.KernelIdeal.Trip Cert.KernelIdeal.Finish
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The state a lane starts the grid with. -/
def lane0 (j : S32x2048.Idx) : Lane F := (k0_pay2 (F := F) j, k0_pay3 j, k0_pay4 (F := F) j)

/-- A buffer held at given contents. -/
abbrev held (c : Dev nD) {sp : Space} {S : Shape} {e : EltTy} (M : Memref sig .tc sp S e) (f : BufTy.Contents (Elt F) M.view.ty) : sProp 𝕄 :=
  iprop(M.view.loc (c : Thread nD τ) ↦[M.view.set]{fullShare} f)

/-- The first conditional is taken at the first point. -/
theorem first_iff : ∀ a : Fin 122, Scalar.cmpi CmpIPredicate.ne (Scalar.extui (Scalar.cmpi CmpIPredicate.eq (BitVec.ofNat 32 a.val) 0#32) : BitVec 32) 0#32 = 1#1 ↔ a.val = 0 := by
  decide +kernel

/-- The second at the last. -/
theorem last_iff (i : grid0.Coords) : k0_cond2 i = 1#1 ↔ (i 0).val = 121 :=
  (by decide +kernel : ∀ a : Fin 122, Scalar.cmpi CmpIPredicate.ne (Scalar.extui (Scalar.cmpi CmpIPredicate.eq (BitVec.ofNat 32 a.val) 121#32) : BitVec 32) 0#32 = 1#1 ↔ a.val = 121) (i 0)

set_option maxHeartbeats 4000000 in
/-- The body, run. -/
theorem body_run (c : Dev nD) (i : grid0.Coords) (arg1 : Memref sig .tc .vmem S32x8192 .f32) (harg1 : arg1.IsWhole)
    (arg2 : Memref sig .tc .vmem S32x8192 .i32) (harg2 : arg2.IsWhole) (arg3 : Memref sig .tc .vmem S32x1024 .f32) (harg3 : arg3.IsWhole)
    (arg4 : Memref sig .tc .vmem S32x1024 .i32) (harg4 : arg4.IsWhole) (arg5 : Memref sig .tc .vmem S32x1 .i32) (harg5 : arg5.IsWhole)
    (arg6 : Memref sig .tc .vmem S32x1 .f32) (harg6 : arg6.IsWhole) (arg7 : Memref sig .tc .vmem S32x2048 .f32) (harg7 : arg7.IsWhole)
    (arg8 : Memref sig .tc .vmem S32x2048 .i32) (harg8 : arg8.IsWhole) (arg9 : Memref sig .tc .vmem S32x2048 .f32) (harg9 : arg9.IsWhole)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty)
    (K : PUnit → sProp 𝕄) :
    iprop(held c arg1 f1 ∗ held c arg2 f2 ∗ held c arg3 f3 ∗ held c arg4 f4 ∗ held c arg5 f5 ∗ held c arg6 f6 ∗ held c arg7 f7 ∗ held c arg8 f8 ∗ held c arg9 f9
        ∗ (∀ g5 g6 g7 g8 g9, ⌜laneOf (F := F) arg7.view arg8.view arg9.view g7 g8 g9
              = tripsL (arg1.view.read (Elt F) f1) (arg2.view.read (Elt F) f2) (BitVec.ofNat 32 (i 0).val) 2
                  (if (i 0).val = 0 then lane0 else laneOf (F := F) arg7.view arg8.view arg9.view f7 f8 f9)
            ∧ ((i 0).val = 121 → arg5.view.read (Elt F) g5 = sample (arg7.view.read (Elt F) g7) (arg8.view.read (Elt F) g8) (arg3.view.read (Elt F) f3) (arg4.view.read (Elt F) f4)
              ∧ arg6.view.read (Elt F) g6 = logp (arg7.view.read (Elt F) g7) (arg8.view.read (Elt F) g8) (arg9.view.read (Elt F) g9) (arg3.view.read (Elt F) f3) (arg4.view.read (Elt F) f4))⌝
          ∗ held c arg1 f1 ∗ held c arg2 f2 ∗ held c arg3 f3 ∗ held c arg4 f4 ∗ held c arg5 g5 ∗ held c arg6 g6 ∗ held c arg7 g7 ∗ held c arg8 g8 ∗ held c arg9 g9 -∗ K ⟨⟩))
      ⊢ wp frame (wpE (defs₀ (F := F)) Variants.none c none) Set.univ
          (cc0__body (F := F) i arg1 harg1 arg2 harg2 arg3 harg3 arg4 harg4 arg5 harg5 arg6 harg6 arg7 harg7 arg8 harg8 arg9 harg9) K := by
  simp only [cc0__body_eq_skeleton]; unfold cc0__body_skel
  simp only [k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  simp only [k0_part10_skel, k0_part11_skel, k0_part12_skel, k0_part13_skel, k0_part14_skel, k0_part15_skel, k0_part16_skel, k0_part17_skel, k0_part18_skel, pure_bind, bind_assoc]
  iintro ⟨H1, H2, H3, H4, H5, H6, H7, H8, H9, Hk⟩
  sl_exec
  sl_step
  iapply Hk $$ %_ %_ %f7L0 %f8L1 %f9L2
  isplitr
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  ipureintro
  refine ⟨?_, fun hi => ?_⟩
  · rw [hL5]
    refine congrArg (tripsL _ _ _ 2) ?_
    by_cases h0 : (i 0).val = 0
    · simp only [dif_pos ((first_iff (i 0)).mpr h0), if_pos h0]
      rw [View.read_writes_full (s := S32x2048), View.read_writes_full (s := S32x2048), View.read_writes_full (s := S32x2048)]
      rfl
    · simp only [dif_neg (fun h => h0 ((first_iff (i 0)).mp h)), if_neg h0]
      rfl
  · simp only [dif_pos ((last_iff i).mpr hi)]
    rw [View.read_writes_full (s := S32x1), View.read_writes_full (s := S32x1), View.readAt_full (s := S32x2048), View.readAt_full (s := S32x2048), View.readAt_full (s := S32x2048),
      View.readAt_full (s := S32x1024), View.readAt_full (s := S32x1024)]
    exact ⟨rfl, rfl⟩

end Cert.KernelIdeal.Body

end
-- ==== Proof.Tail.lean ====
/-
  What the last grid point does with the tail block: which of its lanes count, and that the rows it writes depend on the block
  through its masked logits at those lanes alone.
-/
module

public import proofs.«01_k».proof.Proof.KernelWords
public import proofs.«01_k».proof.Proof.Finish
public import Idealize.ShloMosaic.Lib.Pointwise.ShapeOpsCore
public import Idealize.ShloMosaic.Lib.WordCmp

@[expose] public section

set_option maxRecDepth 16384

noncomputable section

namespace Cert.KernelIdeal.Tail

open Cert.KernelIdeal Cert.KernelIdeal.Gen Cert.Cipher Cert.KernelIdeal.Finish
open Idealize.ShloMosaic Idealize.ShloMosaic.WordCmp

variable {F : FTy → Type} [FloatOps F] [Named F]

/-- The masked logits of the tail block, lanes past the row's end at the padding value. -/
abbrev tailX (a : FVec F S32x1024 .f32) (k : IVec S32x1024 32) : FVec F S32x1024 .f32 := k0_pay152 k0_pay110 k a

/-! ## The counters -/

theorem iota0 (j : S32x1024.Idx) : iota .tc S32x1024 32 [0] iota_S32x1024_d0_w32 j = BitVec.ofNat 32 (j 0).val := by
  rw [iota_apply]; simp
theorem iota1 (j : S32x1024.Idx) : iota .tc S32x1024 32 [1] iota_S32x1024_d1_w32 j = BitVec.ofNat 32 (j 1).val := by
  rw [iota_apply]; simp

/-- The row's offset, -/
theorem pay108_apply (j : S32x1024.Idx) : k0_pay108 j = BitVec.ofNat 32 ((j 0).val * 1000000) := by
  have e : k0_pay108 j = IntOp.muli (iota .tc S32x1024 32 [0] iota_S32x1024_d0_w32 j) 1000000#32 := rfl
  rw [e, iota0]; exact muli_ofNat _ _
/-- an entry's flat position, -/
theorem pay109_apply (j : S32x1024.Idx) : k0_pay109 j = BitVec.ofNat 32 ((j 0).val * 1000000 + (j 1).val + 999424) := by
  have e : k0_pay109 j = IntOp.addi (IntOp.addi (k0_pay108 j) (iota .tc S32x1024 32 [1] iota_S32x1024_d1_w32 j)) 999424#32 := rfl
  rw [e, iota1, pay108_apply, addi_ofNat]; exact addi_ofNat _ _
/-- and its counter. -/
theorem pay111_apply (j : S32x1024.Idx) : k0_pay111 j = BitVec.ofNat 32 ((j 0).val * 1000000 + (j 1).val + 999424 + 42) := by
  have e : k0_pay111 j = IntOp.addi (k0_pay109 j) 42#32 := rfl
  rw [e, pay109_apply]; exact addi_ofNat _ _

/-- Which lanes of the tail block lie inside the row. -/
theorem valid_iff (j : S32x1024.Idx) : k0_pay110 j = 1#1 ↔ (j 1).val < 576 := by
  have e : k0_pay110 j = IntOp.cmpi CmpIPredicate.slt (k0_pay109 j) (IntOp.addi (k0_pay108 j) 1000000#32) := rfl
  have h0 : (j 0).val < 32 := (j 0).isLt
  have h1 : (j 1).val < 1024 := (j 1).isLt
  have e2 : IntOp.addi (k0_pay108 j) 1000000#32 = BitVec.ofNat 32 ((j 0).val * 1000000 + 1000000) := by
    rw [pay108_apply]; exact addi_ofNat _ _
  rw [e, e2, pay109_apply, cmpi_slt_ofNat_eq_one_iff (by norm_num; omega) (by norm_num; omega)]
  omega

/-! ## The masked logits -/

/-- The tail's masked logit at a lane inside the row, -/
theorem tailX_in (a : FVec F S32x1024 .f32) (k : IVec S32x1024 32) (j : S32x1024.Idx) (h : (j 1).val < 576) :
    tailX a k j = masked (a j) (k j) := by
  have h1 : k0_pay110 j = 1#1 := (valid_iff j).mpr h
  have e : tailX a k j = Scalar.select (k0_pay110 j) (Scalar.select (IntOp.andi (k0_pay110 j) (IntOp.cmpi .sgt (k j) 0#32)) (a j) (Scalar.ofBits .f32 0xCE6E6B28#32))
      (Named.named κ "pad" 0xFF61B1E6#32) := rfl
  rw [e, h1]
  have h2 : ∀ x : BitVec 1, IntOp.andi 1#1 x = x := by decide
  rw [h2]; exact select_of_eq_one rfl _ _

/-- and at a lane past its end. -/
theorem tailX_out (a : FVec F S32x1024 .f32) (k : IVec S32x1024 32) (j : S32x1024.Idx) (h : ¬ (j 1).val < 576) :
    tailX a k j = Named.named κ "pad" 0xFF61B1E6#32 := by
  have h1 : ¬ k0_pay110 j = 1#1 := fun e => h ((valid_iff j).mp e)
  have e : tailX a k j = Scalar.select (k0_pay110 j) (Scalar.select (IntOp.andi (k0_pay110 j) (IntOp.cmpi .sgt (k j) 0#32)) (a j) (Scalar.ofBits .f32 0xCE6E6B28#32))
      (Named.named κ "pad" 0xFF61B1E6#32) := rfl
  rw [e]; exact if_neg h1

/-- Two tail blocks that agree inside the rows have the same masked logits. -/
theorem tailX_congr {a a' : FVec F S32x1024 .f32} {k k' : IVec S32x1024 32}
    (ha : ∀ j, (j 1).val < 576 → a j = a' j) (hk : ∀ j, (j 1).val < 576 → k j = k' j) : tailX a k = tailX a' k' := by
  funext j
  by_cases h : (j 1).val < 576
  · rw [tailX_in a k j h, tailX_in a' k' j h, ha j h, hk j h]
  · rw [tailX_out a k j h, tailX_out a' k' j h]

/-- The tail's noisy logits off the masked ones. -/
def tailN (T : FVec F S32x1024 .f32) : FVec F S32x1024 .f32 := fun j => FloatOps.subf (T j) (loglog (oneTo2 (word (k0_pay111 j))))

/-- The tail block's noisy logits. -/
theorem pay153_eq (a : FVec F S32x1024 .f32) (k : IVec S32x1024 32) : k0_pay153 k0_pay110 w184 w189 k a = tailN (tailX a k) :=
  funext fun j => Words.tail_noisy j k a

theorem pay154_congr {a a' : FVec F S32x1024 .f32} {k k' : IVec S32x1024 32} (h : tailX a k = tailX a' k') :
    k0_pay154 k0_pay110 w184 w189 k a = k0_pay154 k0_pay110 w184 w189 k' a' := by
  unfold k0_pay154; rw [pay153_eq, pay153_eq, h]

theorem pay155_congr {a a' : FVec F S32x1024 .f32} {k k' : IVec S32x1024 32} (h : tailX a k = tailX a' k') :
    k0_pay155 k0_pay110 w184 w189 k a = k0_pay155 k0_pay110 w184 w189 k' a' := by
  unfold k0_pay155; rw [pay153_eq, pay153_eq, pay154_congr h, h]

/-- The sampled columns depend on the tail block through its masked logits. -/
theorem sample_congr (r : FVec F S32x2048 .f32) (x : IVec S32x2048 32) {a a' : FVec F S32x1024 .f32} {k k' : IVec S32x1024 32}
    (h : tailX a k = tailX a' k') : sample r x a k = sample r x a' k' := by
  unfold sample winner; rw [pay154_congr h, pay155_congr h]

/-- So do the log-probabilities. -/
theorem logp_congr (r : FVec F S32x2048 .f32) (x : IVec S32x2048 32) (s : FVec F S32x2048 .f32) {a a' : FVec F S32x1024 .f32}
    {k k' : IVec S32x1024 32} (h : tailX a k = tailX a' k') : logp r x s a k = logp r x s a' k' := by
  unfold logp winBits; rw [pay154_congr h, pay155_congr h, show k0_pay152 k0_pay110 k a = k0_pay152 k0_pay110 k' a' from h]

end Cert.KernelIdeal.Tail

end
-- ==== Proof.Run.lean ====
/-
  The kernel's run: what every staging buffer and the scratch hold at each grid point, the launch, and what the two result arrays
  hold when @main ends.
-/
module

public import proofs.«01_k».proof.Proof.Body
public import proofs.«01_k».proof.Proof.Tail
public import Idealize.ShloMosaic.Lib.Pipeline.Frame
public import Idealize.ShloMosaic.Lib.Pipeline.FrameSuffix
public import Idealize.ShloMosaic.Lib.Pipeline.TableIdle
public import Idealize.ShloMosaic.Lib.Pipeline.ValueKit.Geometry
public import Idealize.ShloMosaic.Lib.Pipeline.Value
public import Idealize.ShloMosaic.Lib.Tactic

@[expose] public section

set_option maxRecDepth 16384

noncomputable section

namespace Cert.KernelIdeal.Run

open Cert.KernelIdeal Cert.KernelIdeal.Gen Cert.Lanes Cert.KernelIdeal.Trip Cert.KernelIdeal.Finish Cert.KernelIdeal.Body Cert.KernelIdeal.Tail
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold -/

/-- The lanes after the first `n` points. -/
def lanesAt (c : Dev nD) : ℕ → S32x2048.Idx → Lane F
  | 0 => lane0
  | n + 1 => if h : n < cfg0.N then tripsL (X0_0 m c ⟨n, h⟩) (X0_1 m c ⟨n, h⟩) (BitVec.ofNat 32 n) 2 (lanesAt c n) else lanesAt c n

/-- A point's lanes off the lanes before it. -/
theorem lanesAt_succ (c : Dev nD) (t : Fin cfg0.N) :
    lanesAt m c (t.val + 1) = tripsL (X0_0 m c t) (X0_1 m c t) (BitVec.ofNat 32 t.val) 2 (lanesAt m c t.val) := by
  rw [lanesAt, dif_pos t.isLt]

/-- A default for the lanes of the tail windows' buffers that no fetch fills. -/
def dflt0_2 : (cfg0.win 2).block.Idx → Elt F (cfg0.win 2).elt := fun _ => Classical.choice inferInstance
def dflt0_3 : (cfg0.win 3).block.Idx → Elt F (cfg0.win 3).elt := fun _ => Classical.choice inferInstance
/-- The tail blocks, filled up. -/
def X0_2 (c : Dev nD) (t : Fin cfg0.N) : (cfg0.win 2).block.Idx → Elt F (cfg0.win 2).elt :=
  (cfg0.win 2).fill (cfg0.grid.coords t) dflt0_2 (iblk m c 2 t)
def X0_3 (c : Dev nD) (t : Fin cfg0.N) : (cfg0.win 3).block.Idx → Elt F (cfg0.win 3).elt :=
  (cfg0.win 3).fill (cfg0.grid.coords t) dflt0_3 (iblk m c 3 t)

/-- The three components of the lanes after `n` points. -/
def rAt (c : Dev nD) (n : ℕ) : FVec F S32x2048 .f32 := fun j => (lanesAt m c n j).1
def xAtN (c : Dev nD) (n : ℕ) : IVec S32x2048 32 := fun j => (lanesAt m c n j).2.1
def sAt (c : Dev nD) (n : ℕ) : FVec F S32x2048 .f32 := fun j => (lanesAt m c n j).2.2

/-- The rows the point writes if it is the last. -/
def outS (c : Dev nD) (t : Fin cfg0.N) : IVec S32x1 32 := sample (rAt m c (t.val + 1)) (xAtN m c (t.val + 1)) (X0_2 m c t) (X0_3 m c t)
def outL (c : Dev nD) (t : Fin cfg0.N) : FVec F S32x1 .f32 :=
  logp (rAt m c (t.val + 1)) (xAtN m c (t.val + 1)) (sAt m c (t.val + 1)) (X0_2 m c t) (X0_3 m c t)

/-- The invariant between points: after the first the scratch holds the lanes; the generator register is at something. -/
def Inv (c : Dev nD) (n : ℕ) : sProp 𝕄 :=
  iprop((∃ f7 f8 f9, ⌜n ≠ 0 → laneOf (F := F) (Memref.whole cc0_scratch0).view (Memref.whole cc0_scratch1).view (Memref.whole cc0_scratch2).view f7 f8 f9 = lanesAt m c n⌝
      ∗ held c (Memref.whole cc0_scratch0) f7 ∗ held c (Memref.whole cc0_scratch1) f8 ∗ held c (Memref.whole cc0_scratch2) f9)
    ∗ ∃ r, prngReg c r)

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => outS m c t
    | ⟨5, _⟩ => outL m c t
  Φ n := Inv m c n.val
  q w := Pipeline.shareOf spec0 w
  owed _ := 0

theorem A_eq (c : Dev nD) (w : Fin cfg0.W) : (dats m 0 c).A w = V m c (Pipeline.arrRef spec0 w) := by dsimp only [dats]

theorem after_2 (c : Dev nD) (t : Fin cfg0.N) : (dats m 0 c).after 2 t = X0_2 m c t := by dsimp only [dats]
theorem after_3 (c : Dev nD) (t : Fin cfg0.N) : (dats m 0 c).after 3 t = X0_3 m c t := by dsimp only [dats]

/-! ## What the body finds -/

theorem before_0 (c : Dev nD) (t : Fin cfg0.N) (d) : (dats m 0 c).before 0 t d = X0_0 m c t :=
  before0_0_of m (dats m 0 c) (A_eq m c 0) (fun _ => rfl) t d
theorem before_1 (c : Dev nD) (t : Fin cfg0.N) (d) : (dats m 0 c).before 1 t d = X0_1 m c t :=
  before0_1_of m (dats m 0 c) (A_eq m c 1) (fun _ => rfl) t d
theorem before_2 (c : Dev nD) (t : Fin cfg0.N) (d) :
    (dats m 0 c).before 2 t d = (cfg0.win 2).fill (cfg0.grid.coords t) d (iblk m c 2 t) :=
  ((dats m 0 c).before_in_eq_fetched 2 rfl (fun _ => rfl)
      (fun t t' h => funext fun a => congrArg (fun n => Pipeline.Clip.of n ((cfg0.win 2).size a) (S32x1000000.size a)) (congrFun h a))
      (fun t => by rw [after_2]; unfold X0_2; rw [Pipeline.Window.cut_fill]; unfold Dat.blockOf iblk; rw [A_eq]; try rfl) t d).trans
    (by unfold Dat.fetched Dat.blockOf iblk; rw [A_eq]; try rfl)
theorem before_3 (c : Dev nD) (t : Fin cfg0.N) (d) :
    (dats m 0 c).before 3 t d = (cfg0.win 3).fill (cfg0.grid.coords t) d (iblk m c 3 t) :=
  ((dats m 0 c).before_in_eq_fetched 3 rfl (fun _ => rfl)
      (fun t t' h => funext fun a => congrArg (fun n => Pipeline.Clip.of n ((cfg0.win 3).size a) (S32x1000000.size a)) (congrFun h a))
      (fun t => by rw [after_3]; unfold X0_3; rw [Pipeline.Window.cut_fill]; unfold Dat.blockOf iblk; rw [A_eq]; try rfl) t d).trans
    (by unfold Dat.fetched Dat.blockOf iblk; rw [A_eq]; try rfl)

/-- The results' windows are written at the last point only, -/
theorem idle_of (t : Fin cfg0.N) (h : t.val ≠ 121) : cfg0.idle 4 (cfg0.grid.coords t) = true ∧ cfg0.idle 5 (cfg0.grid.coords t) = true :=
  (by decide +kernel : ∀ t : Fin cfg0.N, t.val ≠ 121 → cfg0.idle 4 (cfg0.grid.coords t) = true ∧ cfg0.idle 5 (cfg0.grid.coords t) = true) t h
theorem live_of (t : Fin cfg0.N) (h : t.val = 121) : cfg0.idle 4 (cfg0.grid.coords t) = false ∧ cfg0.idle 5 (cfg0.grid.coords t) = false :=
  (by decide +kernel : ∀ t : Fin cfg0.N, t.val = 121 → cfg0.idle 4 (cfg0.grid.coords t) = false ∧ cfg0.idle 5 (cfg0.grid.coords t) = false) t h
/-- and flushed there only. -/
theorem noflush (t : Fin cfg0.N) (h : t.val ≠ 121) : (cfg0.win 4).flush t = false ∧ (cfg0.win 5).flush t = false := by
  have hN : t.val < 122 := N_0 ▸ t.isLt
  constructor
  · rw [Bool.eq_false_iff]; intro e; have := (flush0_4 t).mp e; omega
  · rw [Bool.eq_false_iff]; intro e; have := (flush0_5 t).mp e; omega

/-- The coordinate of a point is its number. -/
theorem coord_val : ∀ t : Fin cfg0.N, ((cfg0.grid.coords t) 0).val = t.val := by decide +kernel

/-- So their buffers are found as the launch left them. -/
theorem before_4 (c : Dev nD) (t : Fin cfg0.N) (d) : (dats m 0 c).before 4 t d = d := by
  have hN : t.val < 122 := N_0 ▸ t.isLt
  rw [(dats m 0 c).before_idle_run 4 (fun t => (cfg0.win 4).fetch_out rfl t) d t.val t le_rfl
    (fun j _ hj => ⟨(idle_of j (by omega)).1, (noflush j (by omega)).1⟩)]
  exact (dats m 0 c).before_out_reset 4 rfl _ (.inl (by simp)) d
theorem before_5 (c : Dev nD) (t : Fin cfg0.N) (d) : (dats m 0 c).before 5 t d = d := by
  have hN : t.val < 122 := N_0 ▸ t.isLt
  rw [(dats m 0 c).before_idle_run 5 (fun t => (cfg0.win 5).fetch_out rfl t) d t.val t le_rfl
    (fun j _ hj => ⟨(idle_of j (by omega)).2, (noflush j (by omega)).2⟩)]
  exact (dats m 0 c).before_out_reset 5 rfl _ (.inl (by simp)) d

/-- The tail windows move every lane inside the row. -/
theorem moved0_2 (t : Fin cfg0.N) (j : S32x1024.Idx) (h : (j 1).val < 576) : (cfg0.win 2).moved (cfg0.grid.coords t) j = true :=
  ((cfg0.win 2).moved_iff _ j).mpr fun a => by
    have hx : ∀ t : Fin cfg0.N, (cfg0.win 2).xsize (cfg0.grid.coords t) 0 = 32 ∧ (cfg0.win 2).xsize (cfg0.grid.coords t) 1 = 576 := by decide +kernel
    match a with
    | ⟨0, _⟩ => exact (j 0).isLt.trans_eq (hx t).1.symm
    | ⟨1, _⟩ => exact h.trans_eq (hx t).2.symm
theorem moved0_3 (t : Fin cfg0.N) (j : S32x1024.Idx) (h : (j 1).val < 576) : (cfg0.win 3).moved (cfg0.grid.coords t) j = true :=
  ((cfg0.win 3).moved_iff _ j).mpr fun a => by
    have hx : ∀ t : Fin cfg0.N, (cfg0.win 3).xsize (cfg0.grid.coords t) 0 = 32 ∧ (cfg0.win 3).xsize (cfg0.grid.coords t) 1 = 576 := by decide +kernel
    match a with
    | ⟨0, _⟩ => exact (j 0).isLt.trans_eq (hx t).1.symm
    | ⟨1, _⟩ => exact h.trans_eq (hx t).2.symm

/-- Whatever the unfilled lanes hold, the tail's masked logits are the same. -/
theorem tail_same (c : Dev nD) (t : Fin cfg0.N) (d2 d3) :
    tailX (F := F) ((cfg0.win 2).fill (cfg0.grid.coords t) d2 (iblk m c 2 t)) ((cfg0.win 3).fill (cfg0.grid.coords t) d3 (iblk m c 3 t))
      = tailX (X0_2 m c t) (X0_3 m c t) :=
  tailX_congr
    (fun j h => by unfold X0_2 Pipeline.Window.fill; rw [dif_pos (moved0_2 t j h), dif_pos (moved0_2 t j h)])
    (fun j h => by unfold X0_3 Pipeline.Window.fill; rw [dif_pos (moved0_3 t j h), dif_pos (moved0_3 t j h)])

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d)))

/-- What the body returns at point `t`. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

/-- The inputs' buffers are left as they were found. -/
theorem leaves_0 (c : Dev nD) (t : Fin cfg0.N) :
    owns (c : Thread nD τ) (win0_0.stage (cfg0.slots t 0)) fullShare (X0_0 m c t) ⊢ ((dats m 0 c).leaves 0 t : sProp 𝕄) :=
  (dats m 0 c).leaves_intro 0 t
theorem leaves_1 (c : Dev nD) (t : Fin cfg0.N) :
    owns (c : Thread nD τ) (win0_1.stage (cfg0.slots t 1)) fullShare (X0_1 m c t) ⊢ ((dats m 0 c).leaves 1 t : sProp 𝕄) :=
  (dats m 0 c).leaves_intro 1 t
theorem leaves_2 (c : Dev nD) (t : Fin cfg0.N) (d) :
    owns (c : Thread nD τ) (win0_2.stage (cfg0.slots t 2)) fullShare ((cfg0.win 2).fill (cfg0.grid.coords t) d (iblk m c 2 t))
      ⊢ ((dats m 0 c).leaves 2 t : sProp 𝕄) := by
  show _ ⊢ iprop(∃ d, owns (c : Thread nD τ) (win0_2.stage (cfg0.slots t 2)) fullShare
    ((cfg0.win 2).fill (cfg0.grid.coords t) d ((cfg0.win 2).cut (cfg0.grid.coords t) ((dats m 0 c).after 2 t))))
  rw [after_2]; unfold X0_2; rw [Pipeline.Window.cut_fill]
  iintro H; iexists d; iexact H
theorem leaves_3 (c : Dev nD) (t : Fin cfg0.N) (d) :
    owns (c : Thread nD τ) (win0_3.stage (cfg0.slots t 3)) fullShare ((cfg0.win 3).fill (cfg0.grid.coords t) d (iblk m c 3 t))
      ⊢ ((dats m 0 c).leaves 3 t : sProp 𝕄) := by
  show _ ⊢ iprop(∃ d, owns (c : Thread nD τ) (win0_3.stage (cfg0.slots t 3)) fullShare
    ((cfg0.win 3).fill (cfg0.grid.coords t) d ((cfg0.win 3).cut (cfg0.grid.coords t) ((dats m 0 c).after 3 t))))
  rw [after_3]; unfold X0_3; rw [Pipeline.Window.cut_fill]
  iintro H; iexists d; iexact H

/-- The results' buffers: anything before the last point, the rows at the last. -/
theorem leaves_4 (c : Dev nD) (t : Fin cfg0.N) (X : IVec S32x1 32) (hX : t.val = 121 → X = outS m c t) :
    owns (c : Thread nD τ) (win0_4.stage (cfg0.slots t 4)) fullShare X ⊢ ((dats m 0 c).leaves 4 t : sProp 𝕄) := by
  unfold Dat.leaves
  by_cases h : t.val = 121
  · rw [(live_of t h).1, hX h]; exact .rfl
  · rw [(idle_of t h).1, (noflush t h).1]
    iintro H; iexists X
    rw [before_4]; iexact H
theorem leaves_5 (c : Dev nD) (t : Fin cfg0.N) (X : FVec F S32x1 .f32) (hX : t.val = 121 → X = outL m c t) :
    owns (c : Thread nD τ) (win0_5.stage (cfg0.slots t 5)) fullShare X ⊢ ((dats m 0 c).leaves 5 t : sProp 𝕄) := by
  unfold Dat.leaves
  by_cases h : t.val = 121
  · rw [(live_of t h).2, hX h]; exact .rfl
  · rw [(idle_of t h).2, (noflush t h).2]
    iintro H; iexists X
    rw [before_5]; iexact H

/-- The body at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.castSucc = Inv m c t.val from rfl, show (dats m 0 c).Φ t.succ = Inv m c (t.val + 1) from rfl]
  simp only [before_0, before_1, before_2, before_3, before_4, before_5]
  unfold Inv
  iintro ⟨⟨⟨%f7, %f8, %f9, %hl, H7, H8, H9⟩, Hg⟩, HO, ⟨%d1, H1⟩, ⟨%d2, H2⟩, ⟨%d3, H3⟩, ⟨%d4, H4⟩, ⟨%d5, H5⟩, ⟨%d6, H6⟩⟩
  unfold owns
  icases H1 with ⟨%f1, %h1, H1⟩
  icases H2 with ⟨%f2, %h2, H2⟩
  icases H3 with ⟨%f3, %h3, H3⟩
  icases H4 with ⟨%f4, %h4, H4⟩
  icases H5 with ⟨%f5, -, H5⟩
  icases H6 with ⟨%f6, -, H6⟩
  iapply (body_run c _ _ _ _ _ _ _ _ _ _ _ _ _ _ _ _ _ _ _ f1 f2 f3 f4 f5 f6 f7 f8 f9 _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro %g5 %g6 %g7 %g8 %g9 ⟨%hg, H1, H2, H3, H4, H5, H6, H7, H8, H9⟩
  have hl' : laneOf (F := F) (Memref.whole cc0_scratch0).view (Memref.whole cc0_scratch1).view (Memref.whole cc0_scratch2).view g7 g8 g9
      = lanesAt m c (t.val + 1) := by
    rw [hg.1, lanesAt_succ, coord_val t, h1, h2]
    by_cases h0 : t.val = 0
    · rw [if_pos h0, h0]; rfl
    · rw [if_neg h0, hl h0]
  have er : (Memref.whole cc0_scratch0).view.read (Elt F) g7 = rAt m c (t.val + 1) := funext fun j => congrArg (fun s => s.1) (congrFun hl' j)
  have ex : (Memref.whole cc0_scratch1).view.read (Elt F) g8 = xAtN m c (t.val + 1) := funext fun j => congrArg (fun s => s.2.1) (congrFun hl' j)
  have es : (Memref.whole cc0_scratch2).view.read (Elt F) g9 = sAt m c (t.val + 1) := funext fun j => congrArg (fun s => s.2.2) (congrFun hl' j)
  isplitl [H7 H8 H9 Hg]
  · isplitl [H7 H8 H9]
    · iexists g7, g8, g9
      isplitr; · ipureintro; exact fun _ => hl'
      isplitl [H7]; · iexact H7
      isplitl [H8]; · iexact H8
      iexact H9
    iexact Hg
  isplitl [HO]; · iexact HO
  isplitl [H1]
  · iapply (leaves_0 m c t); unfold owns; iexists f1; isplitr; · ipureintro; exact h1
    iexact H1
  isplitl [H2]
  · iapply (leaves_1 m c t); unfold owns; iexists f2; isplitr; · ipureintro; exact h2
    iexact H2
  isplitl [H3]
  · iapply (leaves_2 m c t d3); unfold owns; iexists f3; isplitr; · ipureintro; exact h3
    iexact H3
  isplitl [H4]
  · iapply (leaves_3 m c t d4); unfold owns; iexists f4; isplitr; · ipureintro; exact h4
    iexact H4
  isplitl [H5]
  · iapply (leaves_4 m c t _ (fun h => (hg.2 (by rw [coord_val t]; exact h)).1.trans (by
      rw [er, ex, h3, h4]; exact sample_congr _ _ (tail_same m c t d3 d4)))); unfold owns; iexists g5; isplitr; · ipureintro; rfl
    iexact H5
  · iapply (leaves_5 m c t _ (fun h => (hg.2 (by rw [coord_val t]; exact h)).2.trans (by
      rw [er, ex, es, h3, h4]; exact logp_congr _ _ _ (tail_same m c t d3 d4)))); unfold owns; iexists g6; isplitr; · ipureintro; rfl
    iexact H6

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body obligation. -/
theorem body_obligation (c : Dev nD) :
    BodyObligationLoose (dats (F := F) m 0 c) (defs₀ (F := F)) Variants.none () Set.univ := fun t => by
  rw [bigSep_W0, bigSep_W0, defs₀_row]
  exact triple_restated (sound_body m c t) rfl .rfl fun _ => .rfl

/-! ## The launch -/

/-- The scratch as the region hands it over and takes it back. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d))
          ∗ (∃ r, prngReg c r)) := by
  unfold Pipeline.ΦA; rw [scopedRest0_eq]; simp only [owns_whole]; try rfl

theorem inv_in (c : Dev nD) : (Pipeline.ΦA spec0 c : sProp 𝕄) ⊢ (dats m 0 c).Φ 0 := by
  rw [PhiA0_eq, show (dats m 0 c).Φ 0 = Inv m c 0 from rfl]; unfold Inv owns
  iintro ⟨⟨⟨%d7, %f7, -, H7⟩, ⟨%d8, %f8, -, H8⟩, ⟨%d9, %f9, -, H9⟩⟩, Hg⟩
  isplitl [H7 H8 H9]
  · iexists f7, f8, f9
    isplitr; · ipureintro; exact fun h => absurd rfl h
    isplitl [H7]; · iexact H7
    isplitl [H8]; · iexact H8
    iexact H9
  iexact Hg

theorem inv_out (c : Dev nD) : (dats m 0 c).Φ (Fin.last cfg0.N) ⊢ (Pipeline.ΦA spec0 c : sProp 𝕄) := by
  rw [PhiA0_eq, show (dats m 0 c).Φ (Fin.last cfg0.N) = Inv m c cfg0.N from rfl]; unfold Inv owns
  iintro ⟨⟨%f7, %f8, %f9, -, H7, H8, H9⟩, Hg⟩
  isplitl [H7 H8 H9]
  · isplitl [H7]; · iexists _, f7; isplitr; swap; · iexact H7
                    ipureintro; rfl
    isplitl [H8]; · iexists _, f8; isplitr; swap; · iexact H8
                    ipureintro; rfl
    iexists _, f9; isplitr; swap; · iexact H9
    ipureintro; rfl
  iexact Hg

set_option backward.isDefEq.respectTransparency.types false in
/-- The run from any memory with zero counters. -/
theorem run_main :
    θ_run defs (onTc (τ := τ) (main (F := F))) (s₀ m ρ)
      (fun r => Pipeline.FramePost cfgs (dats m) 0 (Pipeline.afterTail₀ cfgs (dats m) 0 (V0 m) [hostOps1]) r ∧ r.2.sem = fun _ => 0) :=
  Pipeline.θ_run_frame_around_track_shared cfgs (dats m) (0 : Fin 1) launch₀0 defs₀ Variants.none m ρ main
    (body_obligation m) (fun _ _ _ => rfl) (fun _ _ => rfl) (V0 m) [hostOps1] sfx_sub sfx_fresh sfx_keeps
    (hmain m Variants.none) (A_eq m) (inv_in m) (inv_out m) _ (fun _ h => h)

/-- The last point. -/
def tl : Fin cfg0.N := ⟨121, by decide⟩

/-- The results' arrays hold what the last point wrote. -/
theorem arr_4 (c : Dev nD) : (dats m 0 c).arrAt 4 cfg0.N = outS m c tl := by
  refine (dats m 0 c).arrAt_eq_of_after_last 4 tl (by decide +kernel) _ fun j => ?_
  blk_simp
  rfl
theorem arr_5 (c : Dev nD) : (dats m 0 c).arrAt 5 cfg0.N = outL m c tl := by
  refine (dats m 0 c).arrAt_eq_of_after_last 5 tl (by decide +kernel) _ fun j => ?_
  blk_simp
  rfl

/-- What @main leaves: the arguments as they were, the two results the rows, and every counter zero. -/
theorem run :
    θ_run defs (onTc (τ := τ) (main (F := F))) ⟨m, fun _ => 0, ρ⟩ (fun r => (∀ c : Dev nD,
      r.2.mem ((c.tc : Thread nD τ).loc main_v1) = shapeCast S32 (outS m c tl) shapeCasts_S32x1_S32
      ∧ r.2.mem ((c.tc : Thread nD τ).loc main_v2) = shapeCast S32 (outL m c tl) shapeCasts_S32x1_S32
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  refine (θ_run defs _ _).mono (fun r h => ⟨fun c => ⟨?_, ?_, ?_, ?_⟩, h.2⟩) (run_main m ρ)
  · refine ((h.1 c).2 main_v1 (by decide)).trans ?_
    unfold Pipeline.afterTail₀
    simp only [hostOps1, List.flatten_cons, List.flatten_nil, List.append_nil, StableHlo.after_cons, StableHlo.after_nil]
    refine (StableHlo.reshape_result_ne' _ _ _ _ _ (by decide)).trans ?_
    refine (StableHlo.reshape_result' _ _ _ _ _).trans ?_
    exact congrArg (fun X => shapeCast S32 X shapeCasts_S32x1_S32) (((dats m 0 c).withArrays_arrAt launch₀0.sharedIn (V0 m c) (A_eq m c) 4).trans (arr_4 m c))
  · refine ((h.1 c).2 main_v2 (by decide)).trans ?_
    unfold Pipeline.afterTail₀
    simp only [hostOps1, List.flatten_cons, List.flatten_nil, List.append_nil, StableHlo.after_cons, StableHlo.after_nil]
    refine (StableHlo.reshape_result' _ _ _ _ _).trans ?_
    exact congrArg (fun X => shapeCast S32 X shapeCasts_S32x1_S32) ((StableHlo.reshape_result_ne' _ _ _ _ _ (by decide)).trans (((dats m 0 c).withArrays_arrAt launch₀0.sharedIn (V0 m c) (A_eq m c) 5).trans (arr_5 m c)))
  · exact ((h.1 c).1 2).trans (((dats m 0 c).arrAt_in 2 rfl _).trans ((A_eq m c 2).trans (V_main_arg0 m c)))
  · exact ((h.1 c).1 3).trans (((dats m 0 c).arrAt_in 3 rfl _).trans ((A_eq m c 3).trans (V_main_arg1 m c)))

end Cert.KernelIdeal.Run

end
-- ==== Proof.RefWords.lean ====
/-
  The reference's random words, group of rounds by group of rounds: the word of each entry's counter.
-/
module

public import proofs.«01_k».proof.Proof.Gen.ReferenceIdeal.Read
public import proofs.«01_k».proof.Proof.Lanes
public import Idealize.ShloMosaic.Lib.WordCmp

@[expose] public section

set_option maxRecDepth 16384

noncomputable section

namespace Cert.ReferenceIdeal.Words

open Cert.ReferenceIdeal Cert.ReferenceIdeal.Gen Cert.ReferenceIdeal.Read Cert.Cipher Cert.Lanes
open Idealize.ShloMosaic Idealize.ShloMosaic.WordCmp

/-- Key words added one after the other are added at once. -/
theorem add_twice (x k l : W) : IntOp.addi (IntOp.addi x k) l = IntOp.addi x (IntOp.addi k l) := BitVec.add_assoc x k l

variable (i : S32x1000000.Idx)

/-- The counter with the key added. -/
theorem counter : val_main_v14 (F := Ideal) i = ctr (i 0).val (i 1).val := by
  have e : val_main_v14 (F := Ideal) i
      = IntOp.addi (IntOp.addi (IntOp.muli (BitVec.ofNat 32 (i 0).val) (BitVec.ofNat 32 1000000)) (BitVec.ofNat 32 (i 1).val)) (BitVec.ofNat 32 42) := rfl
  have h : IntOp.addi (IntOp.addi (IntOp.muli (BitVec.ofNat 32 (i 0).val) (BitVec.ofNat 32 1000000)) (BitVec.ofNat 32 (i 1).val)) (BitVec.ofNat 32 42)
      = BitVec.ofNat 32 ((i 0).val * 1000000 + (i 1).val + 42) := by rw [muli_ofNat, addi_ofNat, addi_ofNat]
  exact e.trans h
/-- The first word is zero, so the first round starts from the counter twice. -/
theorem start : val_main_v15 (F := Ideal) i = val_main_v14 (F := Ideal) i := by
  have e : val_main_v15 (F := Ideal) i = 0#32 + val_main_v14 (F := Ideal) i := rfl
  rw [e, BitVec.zero_add]

/-- The five groups of rounds. -/
theorem quad1 : (val_main_v36 (F := Ideal) i, val_main_v42 (F := Ideal) i)
    = rnd 6#32 26#32 (rnd 26#32 6#32 (rnd 15#32 17#32 (rndW 13#32 19#32 (val_main_v15 (F := Ideal) i) (val_main_v14 (F := Ideal) i)))) := rfl
theorem quad2 : (val_main_v70 (F := Ideal) i, val_main_v76 (F := Ideal) i) = quadB (val_main_v44 (F := Ideal) i, val_main_v48 (F := Ideal) i) := rfl
theorem quad3 : (val_main_v104 (F := Ideal) i, val_main_v110 (F := Ideal) i) = quadA (val_main_v78 (F := Ideal) i, val_main_v82 (F := Ideal) i) := rfl
theorem quad4 : (val_main_v138 (F := Ideal) i, val_main_v144 (F := Ideal) i) = quadB (val_main_v112 (F := Ideal) i, val_main_v116 (F := Ideal) i) := rfl
theorem quad5 : (val_main_v172 (F := Ideal) i, val_main_v178 (F := Ideal) i) = quadA (val_main_v146 (F := Ideal) i, val_main_v150 (F := Ideal) i) := rfl

/-- The third key word, the xor of the first two with the cipher's constant. -/
theorem third (j) : val_main_v10 (F := Ideal) j = 466689008#32 := by
  have e : val_main_v10 (F := Ideal) j = IntOp.xori (IntOp.xori 0#32 42#32) 466688986#32 := rfl
  rw [e]; decide

/-- The key words between them. -/
theorem key1 : (val_main_v44 (F := Ideal) i, val_main_v48 (F := Ideal) i)
    = inj 42#32 (Scalar.addi 466689008#32 1#32) (val_main_v36 (F := Ideal) i, val_main_v42 (F := Ideal) i) := by
  have e : (val_main_v44 (F := Ideal) i, val_main_v48 (F := Ideal) i) = (IntOp.addi (val_main_v36 (F := Ideal) i) (42#32),
      IntOp.addi (IntOp.addi (val_main_v42 (F := Ideal) i) (val_main_v10 (F := Ideal) (fun a => a.elim0))) 1#32) := rfl
  rw [e, third, add_twice]; rfl
theorem key2 : (val_main_v78 (F := Ideal) i, val_main_v82 (F := Ideal) i)
    = inj 466689008#32 (Scalar.addi 0#32 2#32) (val_main_v70 (F := Ideal) i, val_main_v76 (F := Ideal) i) := by
  have e : (val_main_v78 (F := Ideal) i, val_main_v82 (F := Ideal) i) = (IntOp.addi (val_main_v70 (F := Ideal) i) (val_main_v10 (F := Ideal) (fun a => a.elim0)),
      IntOp.addi (IntOp.addi (val_main_v76 (F := Ideal) i) (0#32)) 2#32) := rfl
  rw [e, third, add_twice]; rfl
theorem key3 : (val_main_v112 (F := Ideal) i, val_main_v116 (F := Ideal) i)
    = inj 0#32 (Scalar.addi 42#32 3#32) (val_main_v104 (F := Ideal) i, val_main_v110 (F := Ideal) i) := by
  have e : (val_main_v112 (F := Ideal) i, val_main_v116 (F := Ideal) i) = (IntOp.addi (val_main_v104 (F := Ideal) i) (0#32),
      IntOp.addi (IntOp.addi (val_main_v110 (F := Ideal) i) (42#32)) 3#32) := rfl
  rw [e, add_twice]; rfl
theorem key4 : (val_main_v146 (F := Ideal) i, val_main_v150 (F := Ideal) i)
    = inj 42#32 (Scalar.addi 466689008#32 4#32) (val_main_v138 (F := Ideal) i, val_main_v144 (F := Ideal) i) := by
  have e : (val_main_v146 (F := Ideal) i, val_main_v150 (F := Ideal) i) = (IntOp.addi (val_main_v138 (F := Ideal) i) (42#32),
      IntOp.addi (IntOp.addi (val_main_v144 (F := Ideal) i) (val_main_v10 (F := Ideal) (fun a => a.elim0))) 4#32) := rfl
  rw [e, third, add_twice]; rfl
/-- The last key words, and the two words xored. -/
theorem last : val_main_v185 (F := Ideal) i = fin (val_main_v172 (F := Ideal) i, val_main_v178 (F := Ideal) i) := by
  have e : val_main_v185 (F := Ideal) i = IntOp.xori (IntOp.addi (val_main_v172 (F := Ideal) i) (val_main_v10 (F := Ideal) (fun a => a.elim0)))
      (IntOp.addi (IntOp.addi (val_main_v178 (F := Ideal) i) 0#32) 5#32) := rfl
  rw [e, third, add_twice]; rfl

/-- The word of an entry is the cipher's at its counter. -/
theorem word_eq : val_main_v185 (F := Ideal) i = word (ctr (i 0).val (i 1).val) := by
  rw [last, quad5, key4, quad4, key3, quad3, key2, quad2, key1, quad1, start, counter]; rfl

end Cert.ReferenceIdeal.Words

end
-- ==== Proof.Argmax.lean ====
/-
  The first greatest entry of a row, found lane by lane: each lane keeps the greatest value it has met, the counter it met it at
  first and the running sum; the lanes' greatest value with the least counter among the lanes that tie is the row's first greatest
  entry. Here as facts about functions on the naturals.
-/
module

public import Idealize.ShloMosaic.PureOps.Ideal.Laws
public import Idealize.ShloMosaic.PureOps.Reduce

@[expose] public section

noncomputable section

namespace Cert.Argmax

open Idealize.ShloMosaic

/-- `n` is the first of the greatest entries among the first `V`. -/
structure IsWin (V : ℕ) (g : ℕ → EReal) (n : ℕ) : Prop where
  lt : n < V
  le : ∀ k, k < V → g k ≤ g n
  first : ∀ k, k < n → g k < g n

/-- There is one. -/
theorem exists_win (V : ℕ) (hV : 0 < V) (g : ℕ → EReal) : ∃ n, IsWin V g n := by
  classical
  obtain ⟨b, hb, hmax⟩ := Finset.exists_max_image (Finset.range V) g ⟨0, Finset.mem_range.mpr hV⟩
  have hex : ∃ n, n < V ∧ ∀ k, k < V → g k ≤ g n := ⟨b, Finset.mem_range.mp hb, fun k hk => hmax k (Finset.mem_range.mpr hk)⟩
  refine ⟨Nat.find hex, (Nat.find_spec hex).1, (Nat.find_spec hex).2, fun k hk => ?_⟩
  have hkV : k < V := hk.trans (Nat.find_spec hex).1
  refine lt_of_le_of_ne ((Nat.find_spec hex).2 k hkV) fun e => ?_
  exact Nat.find_min hex hk ⟨hkV, fun k' hk' => e ▸ (Nat.find_spec hex).2 k' hk'⟩

/-- An entry as great is no earlier. -/
theorem IsWin.le_of_eq {V : ℕ} {g : ℕ → EReal} {n k : ℕ} (h : IsWin V g n) (e : g k = g n) : n ≤ k := by
  by_contra hk
  exact absurd (h.first k (by omega)) (by rw [e]; exact lt_irrefl _)

/-- There is only one. -/
theorem IsWin.unique {V : ℕ} {g : ℕ → EReal} {n k : ℕ} (h : IsWin V g n) (h' : IsWin V g k) : n = k := by
  have e : g k = g n := le_antisymm (h.le k h'.lt) (h'.le n h.lt)
  exact le_antisymm (h.le_of_eq e) (h'.le_of_eq e.symm)

/-- What a lane holds after `T` steps over the values `g`, the terms `e` and the counters `c`. -/
structure LaneOk (T : ℕ) (g e : ℕ → EReal) (c : ℕ → BitVec 32) (s : EReal × BitVec 32 × EReal) : Prop where
  le : ∀ q, q < T → g q ≤ s.1
  at_ : s.1 = ⊥ ∨ ∃ q, q < T ∧ s.1 = g q ∧ (∀ q', q' < q → g q' < g q) ∧ s.2.1 = c q
  sum : s.2.2 = ∑ q ∈ Finset.range T, e q

/-- Before the first step. -/
theorem LaneOk.zero (g e : ℕ → EReal) (c : ℕ → BitVec 32) (x : BitVec 32) : LaneOk 0 g e c (⊥, x, 0) :=
  ⟨fun q hq => absurd hq (Nat.not_lt_zero q), .inl rfl, by simp⟩

/-- A step. -/
theorem LaneOk.succ {T : ℕ} {g e : ℕ → EReal} {c : ℕ → BitVec 32} {s : EReal × BitVec 32 × EReal} (h : LaneOk T g e c s) :
    LaneOk (T + 1) g e c (max (g T) s.1, Scalar.select (BitVec.ofBool (decide (s.1 < g T))) (c T) s.2.1, s.2.2 + e T) := by
  refine ⟨fun q hq => ?_, ?_, ?_⟩
  · rcases Nat.lt_succ_iff_lt_or_eq.mp hq with h' | rfl
    · exact (h.le q h').trans (le_max_right _ _)
    · exact le_max_left _ _
  · by_cases hlt : s.1 < g T
    · right
      refine ⟨T, Nat.lt_succ_self T, max_eq_left hlt.le, fun q' hq' => (h.le q' hq').trans_lt hlt, ?_⟩
      simp [Scalar.select, hlt]
    · have e1 : max (g T) s.1 = s.1 := max_eq_right (not_lt.mp hlt)
      have e2 : Scalar.select (BitVec.ofBool (decide (s.1 < g T))) (c T) s.2.1 = s.2.1 := by simp [Scalar.select, hlt]
      simp only [e1, e2]
      exact h.at_.imp id fun ⟨q, hq, r⟩ => ⟨q, Nat.lt_succ_of_lt hq, r⟩
  · simp only [h.sum, Finset.sum_range_succ]

/-! ## Folds over the lanes -/

/-- The fold of the greatest value is at least every value, -/
theorem le_foldmax {k : ℕ} (r : Fin k → EReal) (l : Fin k) : r l ≤ Finset.univ.fold max ⊥ r :=
  (Finset.le_fold_max _).mpr (.inr ⟨l, Finset.mem_univ l, le_rfl⟩)
/-- at most every bound of them, -/
theorem foldmax_le {k : ℕ} (r : Fin k → EReal) (b : EReal) (h : ∀ l, r l ≤ b) : Finset.univ.fold max ⊥ r ≤ b :=
  (Finset.fold_max_le _).mpr ⟨bot_le, fun l _ => h l⟩
/-- and one of them unless it is the least. -/
theorem foldmax_mem {k : ℕ} (r : Fin k → EReal) (h : Finset.univ.fold max ⊥ r ≠ ⊥) : ∃ l, r l = Finset.univ.fold max ⊥ r := by
  by_contra hne
  have : Finset.univ.fold max ⊥ r < Finset.univ.fold max ⊥ r :=
    (Finset.fold_max_lt _).mpr ⟨bot_lt_iff_ne_bot.mpr h, fun l _ => lt_of_le_of_ne (le_foldmax r l) fun e => hne ⟨l, e⟩⟩
  exact lt_irrefl _ this

/-- The least of two signed words, as integers. -/
theorem minsi_toInt (x y : BitVec 32) : (IntOp.minsi x y).toInt = min x.toInt y.toInt := by
  unfold IntOp.minsi
  by_cases h : x.slt y = true
  · rw [if_pos h]; exact (min_eq_left (BitVec.slt_iff_toInt_lt.mp h).le).symm
  · rw [if_neg h]; exact (min_eq_right (not_lt.mp fun hl => h (BitVec.slt_iff_toInt_lt.mpr hl))).symm

/-- The fold of the least word is the word that is among them and below them all. -/
theorem foldmin_eq {k : ℕ} (x : Fin k → BitVec 32) (i v : BitVec 32) (hi : v.toInt ≤ i.toInt) (hmem : ∃ l, x l = v)
    (hle : ∀ l, v.toInt ≤ (x l).toInt) : Finset.univ.fold IntOp.minsi i x = v := by
  apply BitVec.eq_of_toInt_eq
  have e : (Finset.univ.fold IntOp.minsi i x).toInt = Finset.univ.fold min i.toInt (fun l => (x l).toInt) :=
    (Finset.fold_hom (op := IntOp.minsi) (op' := min) (m := BitVec.toInt) (f := x) (b := i) (s := Finset.univ) minsi_toInt).symm
  rw [e]
  obtain ⟨l, rfl⟩ := hmem
  exact le_antisymm ((Finset.fold_min_le _).mpr (.inr ⟨l, Finset.mem_univ l, le_rfl⟩)) ((Finset.le_fold_min _).mpr ⟨hi, fun l' _ => hle l'⟩)

/-! ## The row -/

/-- The counters of a row, in order as signed words. -/
structure Counters (V : ℕ) (c : ℕ → BitVec 32) (i : BitVec 32) : Prop where
  mono : ∀ a b, a ≤ b → b < V → (c a).toInt ≤ (c b).toInt
  top : ∀ a, a < V → (c a).toInt ≤ i.toInt

/-- The row of `488 * 2048 + 576` entries `g` in two parts. The lanes `s` run over the first, each lane every `2048`th entry; the
    tail `t` holds the second and is the least value past it. The greater of the two greatest values (the tail's only if strictly
    greater), with the least counter among the entries that tie for it, is the row's first greatest entry. -/
theorem row_first (g e : ℕ → EReal) (c : ℕ → BitVec 32) (i : BitVec 32) (s : Fin 2048 → EReal × BitVec 32 × EReal)
    (t : Fin 1024 → EReal) (hc : Counters (999424 + 1024) c i)
    (hs : ∀ l : Fin 2048, LaneOk 488 (fun q => g (q * 2048 + l.val)) (fun q => e (q * 2048 + l.val)) (fun q => c (q * 2048 + l.val)) (s l))
    (ht : ∀ l : Fin 1024, l.val < 576 → t l = g (999424 + l.val)) (ht' : ∀ l : Fin 1024, ¬ l.val < 576 → t l = ⊥)
    (M1 M2 : EReal) (W1 W2 : BitVec 32)
    (hM1 : M1 = Finset.univ.fold max ⊥ fun l => (s l).1)
    (hM2 : M2 = Finset.univ.fold max ⊥ t)
    (hW1 : W1 = Finset.univ.fold IntOp.minsi i fun l => if (s l).1 = M1 then (s l).2.1 else i)
    (hW2 : W2 = Finset.univ.fold IntOp.minsi i fun l => if t l = M2 then c (999424 + l.val) else i)
    (hb : ∃ k, k < 1000000 ∧ g k ≠ ⊥) :
    ∃ n, IsWin 1000000 g n ∧ g n ≠ ⊥ ∧ max M1 M2 = g n ∧ (if M1 < M2 then W2 else W1) = c n := by
  obtain ⟨n, hn⟩ := exists_win 1000000 (by norm_num) g
  have hne : g n ≠ ⊥ := fun h => by
    obtain ⟨k, hk, hgk⟩ := hb
    exact hgk (le_bot_iff.mp (h ▸ hn.le k hk))
  have hlt := hn.lt
  -- each part's greatest value is at most the row's
  have h1 : M1 ≤ g n := by
    rw [hM1]
    refine foldmax_le _ _ fun l => ?_
    rcases (hs l).at_ with h | ⟨q, hq, h, -⟩
    · rw [h]; exact bot_le
    · rw [h]; exact hn.le _ (by have := l.isLt; omega)
  have h2 : M2 ≤ g n := by
    rw [hM2]
    refine foldmax_le _ _ fun l => ?_
    by_cases hl : l.val < 576
    · rw [ht l hl]; exact hn.le _ (by omega)
    · rw [ht' l hl]; exact bot_le
  -- and at least each of the part's entries
  have h1' : ∀ k, k < 999424 → g k ≤ M1 := fun k hk => by
    have hk' : k / 2048 * 2048 + k % 2048 = k := by omega
    have := (hs ⟨k % 2048, Nat.mod_lt _ (by norm_num)⟩).le (k / 2048) (by omega)
    simp only [hk'] at this
    exact this.trans (hM1 ▸ le_foldmax (fun l => (s l).1) _)
  have h2' : ∀ k, 999424 ≤ k → k < 1000000 → g k ≤ M2 := fun k hk hk2 => by
    have := ht ⟨k - 999424, by omega⟩ (show k - 999424 < 576 by omega)
    rw [show 999424 + (k - 999424) = k by omega] at this
    rw [← this, hM2]
    exact le_foldmax t _
  refine ⟨n, hn, hne, ?_, ?_⟩
  · refine le_antisymm (max_le h1 h2) ?_
    by_cases hV : n < 999424
    · exact (h1' n hV).trans (le_max_left _ _)
    · exact (h2' n (by omega) hlt).trans (le_max_right _ _)
  by_cases hM : M1 < M2
  · rw [if_pos hM, hW2]
    have hV : 999424 ≤ n := by
      by_contra h
      exact absurd ((h1' n (by omega)).trans_lt hM) (not_lt.mpr h2)
    have hM2n : M2 = g n := le_antisymm h2 (h2' n hV hlt)
    refine foldmin_eq _ _ _ (hc.top n (by omega)) ⟨⟨n - 999424, by omega⟩, ?_⟩ fun l => ?_
    · have := ht ⟨n - 999424, by omega⟩ (show n - 999424 < 576 by omega)
      simp only [show 999424 + (n - 999424) = n by omega] at this ⊢
      rw [if_pos (this.trans hM2n.symm)]
    · by_cases hl : t l = M2
      · rw [if_pos hl]
        have hl5 : l.val < 576 := by
          by_contra h
          exact hne (by rw [← hM2n, ← hl, ht' l h])
        exact hc.mono _ _ (hn.le_of_eq (by rw [← ht l hl5, hl, hM2n])) (by omega)
      · rw [if_neg hl]; exact hc.top n (by omega)
  · rw [if_neg hM, hW1]
    have hM1n : M1 = g n := by
      refine le_antisymm h1 ?_
      by_cases hV : n < 999424
      · exact h1' n hV
      · exact (h2' n (by omega) hlt).trans (not_lt.mp hM)
    -- a lane that ties holds the counter of an entry as great as the row's
    have tie : ∀ l : Fin 2048, (s l).1 = M1 → ∃ q, q < 488 ∧ g (q * 2048 + l.val) = g n ∧
        (∀ q', q' < q → g (q' * 2048 + l.val) < g n) ∧ (s l).2.1 = c (q * 2048 + l.val) := fun l hl => by
      rcases (hs l).at_ with h | ⟨q, hq, h, hf, hx⟩
      · exact absurd (hM1n.symm.trans (hl.symm.trans h)) hne
      · have e : g (q * 2048 + l.val) = g n := h.symm.trans (hl.trans hM1n)
        exact ⟨q, hq, e, fun q' hq' => (hf q' hq').trans_eq e, hx⟩
    have hV : n < 999424 := by
      obtain ⟨l, hl⟩ := foldmax_mem (fun l => (s l).1) (by rw [← hM1, hM1n]; exact hne)
      obtain ⟨q, hq, hg, -⟩ := tie l (hl.trans hM1.symm)
      have := hn.le_of_eq hg
      have := l.isLt
      omega
    refine foldmin_eq _ _ _ (hc.top n (by omega)) ⟨⟨n % 2048, Nat.mod_lt _ (by norm_num)⟩, ?_⟩ fun l => ?_
    · have hn' : n / 2048 * 2048 + n % 2048 = n := by omega
      have hl : (s ⟨n % 2048, Nat.mod_lt _ (by norm_num)⟩).1 = M1 := by
        refine le_antisymm (hM1 ▸ le_foldmax (fun l => (s l).1) _) ?_
        have := (hs ⟨n % 2048, Nat.mod_lt _ (by norm_num)⟩).le (n / 2048) (by omega)
        simp only [hn'] at this
        rw [hM1n]; exact this
      obtain ⟨q, hq, hg, hf, hx⟩ := tie _ hl
      rw [if_pos hl, hx]
      have hle := hn.le_of_eq hg
      simp only at hle hf ⊢
      have hq' : ¬ n / 2048 < q := fun h => by
        have := hf _ h
        rw [hn'] at this
        exact lt_irrefl _ this
      congr 1
      omega
    · by_cases hl : (s l).1 = M1
      · rw [if_pos hl]
        obtain ⟨q, hq, hg, -, hx⟩ := tie l hl
        rw [hx]
        exact hc.mono _ _ (hn.le_of_eq hg) (by have := l.isLt; omega)
      · rw [if_neg hl]; exact hc.top n (by omega)

/-- The lanes' sums and the tail's terms together are the row's sum. -/
theorem row_sum (e : ℕ → EReal) (s : Fin 2048 → EReal) (t : Fin 1024 → EReal)
    (hs : ∀ l : Fin 2048, s l = ∑ q ∈ Finset.range 488, e (q * 2048 + l.val))
    (ht : ∀ l : Fin 1024, l.val < 576 → t l = e (999424 + l.val)) (ht' : ∀ l : Fin 1024, ¬ l.val < 576 → t l = 0) :
    (∑ l, s l) + ∑ l, t l = ∑ k ∈ Finset.range 1000000, e k := by
  have h1 : ∀ T, ∑ k ∈ Finset.range (T * 2048), e k = ∑ q ∈ Finset.range T, ∑ l ∈ Finset.range 2048, e (q * 2048 + l) := by
    intro T
    induction T with
    | zero => simp
    | succ T ih => rw [Finset.sum_range_succ, ← ih, Nat.succ_mul, Finset.sum_range_add]
  have h2 : ∑ l, t l = ∑ l ∈ Finset.range 576, e (999424 + l) := by
    rw [Finset.sum_fin_eq_sum_range]
    generalize hf : (fun i => if h : i < 1024 then t ⟨i, h⟩ else 0) = f
    rw [show (1024 : ℕ) = 576 + 448 from rfl, Finset.sum_range_add]
    subst hf
    rw [Finset.sum_eq_zero (s := Finset.range 448), add_zero]
    · refine Finset.sum_congr rfl fun l hl => ?_
      have hl := Finset.mem_range.mp hl
      simp only [dif_pos (show l < 1024 by omega)]
      exact ht _ hl
    · intro l hl
      have hl := Finset.mem_range.mp hl
      simp only [dif_pos (show 576 + l < 1024 by omega)]
      exact ht' _ (by simp)
  rw [show (1000000 : ℕ) = 488 * 2048 + 576 from rfl, Finset.sum_range_add, h1, h2, Finset.sum_comm (s := Finset.range 488), Finset.sum_range (n := 2048)]
  simp only [hs]

end Cert.Argmax

end
-- ==== Proof.Noise.lean ====
/-
  The noise over the extended reals: the uniform number drawn from a word lies strictly between 0 and 1, so the logarithm of minus
  its logarithm is a real number, and taking it from a masked logit and adding it back changes nothing.
-/
module

public import proofs.«01_k».proof.Proof.Cipher
public import Idealize.ShloMosaic.PureOps.Ideal
public import Idealize.ShloMosaic.PureOps.Ideal.Laws

@[expose] public section

noncomputable section

namespace Cert.Noise

open Cert.Cipher
open Idealize.ShloMosaic

/-- A positive pattern of exponent `E`, neither the least nor the greatest, as a real. -/
theorem ieee_normal (b : BitVec 32) (E : ℕ) (hs : b.extractLsb' 31 1 = 0#1) (he : (b.extractLsb' 23 8).toNat = E) (h0 : E ≠ 0) (h1 : E ≠ 255) :
    Ideal.ieee 8 23 b = ((((2 : ℝ) ^ 23 + ((b.extractLsb' 0 23).toNat : ℝ)) * (2 : ℝ) ^ ((E : ℤ) - 127 - 23) : ℝ) : EReal) := by
  subst he
  unfold Ideal.ieee
  have h1' : ¬ (b.extractLsb' 23 8).toNat = 2 ^ 8 - 1 := by simpa using h1
  simp only [h0, h1', if_false, Nat.reduceAdd, hs]
  norm_num

/-- The pattern of one. -/
theorem one : (Ideal.ofBits .f32 0x3F800000#32 : EReal) = ((1 : ℝ) : EReal) := by
  refine (ieee_normal 0x3F800000#32 127 (by decide) (by decide) (by decide) (by decide)).trans (congrArg _ ?_)
  rw [show (BitVec.extractLsb' 0 23 0x3F800000#32).toNat = 0 from by decide]
  norm_num
/-- The pattern of the least normal number. -/
theorem tiny : (Ideal.ofBits .f32 0x00800000#32 : EReal) = (((2 : ℝ) ^ (-126 : ℤ) : ℝ) : EReal) := by
  refine (ieee_normal 0x00800000#32 1 (by decide) (by decide) (by decide) (by decide)).trans (congrArg _ ?_)
  rw [show (BitVec.extractLsb' 0 23 0x00800000#32).toNat = 0 from by decide]
  norm_num
/-- The pattern of zero. -/
theorem zero : (Ideal.ofBits .f32 0x00000000#32 : EReal) = 0 := by
  simp [Ideal.ofBits, Ideal.ieee]
/-- The pattern of minus infinity. -/
theorem ninf : (Ideal.ofBits .f32 0xFF800000#32 : EReal) = ⊥ := by
  simp [Ideal.ofBits, Ideal.ieee]

/-- A word's number in [1, 2), as a real. -/
theorem oneTo2_real (w : W) : ∃ m : ℕ, m < 2 ^ 23 ∧ (oneTo2 (F := Ideal) w : EReal) = ((((2 : ℝ) ^ 23 + m) * (2 : ℝ) ^ (-23 : ℤ) : ℝ) : EReal) := by
  have e31 : ((w >>> 9) ||| 1065353216#32).extractLsb' 31 1 = 0#1 := by
    apply BitVec.eq_of_getLsbD_eq
    intro i hi
    interval_cases i
    simp [BitVec.getLsbD_extractLsb', BitVec.getLsbD_or]
  have e23 : ((w >>> 9) ||| 1065353216#32).extractLsb' 23 8 = 127#8 := by
    apply BitVec.eq_of_getLsbD_eq
    intro i hi
    interval_cases i <;> simp [BitVec.getLsbD_extractLsb', BitVec.getLsbD_or]
  refine ⟨(((w >>> 9) ||| 1065353216#32).extractLsb' 0 23).toNat, BitVec.isLt _, ?_⟩
  have h : (oneTo2 (F := Ideal) w : EReal) = Ideal.ieee 8 23 ((w >>> 9) ||| 1065353216#32) := by
    have e : IntOp.shrui .vector w 9#32 = w >>> 9 := if_pos (by decide)
    unfold oneTo2
    rw [e]
    rfl
  rw [h, ieee_normal _ 127 e31 (by rw [e23]; rfl) (by decide) (by decide)]
  norm_num

/-- The uniform number of a word: strictly between 0 and 1. -/
theorem unit_real (w : W) : ∃ u : ℝ, 0 < u ∧ u < 1 ∧ (2 : ℝ) ^ (-126 : ℤ) ≤ u
    ∧ ((oneTo2 (F := Ideal) w : EReal) - ((1 : ℝ) : EReal)) + (((2 : ℝ) ^ (-126 : ℤ) : ℝ) : EReal) = (u : EReal) := by
  obtain ⟨m, hm, h⟩ := oneTo2_real w
  have hm' : (m : ℝ) ≤ 2 ^ 23 - 1 := by
    have : m ≤ 2 ^ 23 - 1 := by omega
    have h2 : ((m : ℕ) : ℝ) ≤ ((2 ^ 23 - 1 : ℕ) : ℝ) := by exact_mod_cast this
    refine h2.trans (by norm_num)
  have h0 : (0 : ℝ) ≤ m := Nat.cast_nonneg m
  refine ⟨((2 : ℝ) ^ 23 + m) * (2 : ℝ) ^ (-23 : ℤ) - 1 + (2 : ℝ) ^ (-126 : ℤ), ?_, ?_, ?_, ?_⟩
  · have e : ((2 : ℝ) ^ 23 + m) * (2 : ℝ) ^ (-23 : ℤ) - 1 = m * (2 : ℝ) ^ (-23 : ℤ) := by norm_num; ring
    rw [e]; positivity
  · have e : ((2 : ℝ) ^ 23 + m) * (2 : ℝ) ^ (-23 : ℤ) - 1 ≤ 1 - (2 : ℝ) ^ (-23 : ℤ) := by norm_num; linarith
    have : (2 : ℝ) ^ (-126 : ℤ) < (2 : ℝ) ^ (-23 : ℤ) := zpow_lt_zpow_right₀ (by norm_num) (by norm_num)
    linarith
  · have e : ((2 : ℝ) ^ 23 + m) * (2 : ℝ) ^ (-23 : ℤ) - 1 = m * (2 : ℝ) ^ (-23 : ℤ) := by norm_num; ring
    rw [e]
    have : (0 : ℝ) ≤ m * (2 : ℝ) ^ (-23 : ℤ) := by positivity
    linarith
  · rw [h, ← EReal.coe_sub, ← EReal.coe_add]

/-- The logarithm of a positive real. -/
theorem log_pos {u : ℝ} (h : 0 < u) : Ideal.log (u : EReal) = (Real.log u : EReal) := by
  show (if u ≤ 0 then ⊥ else (Real.log u : EReal)) = _
  rw [if_neg (not_le.mpr h)]

/-- The uniform number as the kernel writes it and the noise, minus the Gumbel variable, as a real. -/
theorem noise_real (w : W) : ∃ u r : ℝ, 0 < u ∧ u < 1 ∧ (2 : ℝ) ^ (-126 : ℤ) ≤ u
    ∧ ((oneTo2 (F := Ideal) w : EReal) - ((1 : ℝ) : EReal)) + (((2 : ℝ) ^ (-126 : ℤ) : ℝ) : EReal) = (u : EReal)
    ∧ Ideal.log (-(Ideal.log (u : EReal))) = (r : EReal) ∧ (loglog (F := Ideal) (oneTo2 w) : EReal) = (r : EReal) := by
  obtain ⟨u, h0, h1, ht, h⟩ := unit_real w
  have e : Ideal.log (-(Ideal.log (u : EReal))) = (Real.log (-(Real.log u)) : EReal) := by
    rw [log_pos h0, ← EReal.coe_neg, log_pos (neg_pos.mpr (Real.log_neg h0 h1))]
  refine ⟨u, Real.log (-(Real.log u)), h0, h1, ht, h, e, ?_⟩
  rw [← e]
  show Ideal.log ((Ideal.ofBits .f32 0x00000000#32 : EReal) - Ideal.log (((oneTo2 (F := Ideal) w : EReal) - (Ideal.ofBits .f32 0x3F800000#32 : EReal))
    + (Ideal.ofBits .f32 0x00800000#32 : EReal))) = _
  rw [zero, one, tiny, h, zero_sub]

/-- A real taken from an extended real and added back. -/
theorem sub_add_real (x : EReal) (r : ℝ) : x - r + r = x := by
  induction x with
  | bot => rfl
  | top => rfl
  | coe a => rw [← EReal.coe_sub, ← EReal.coe_add, sub_add_cancel]

/-- Less a real, an extended real is the least one only if it was. -/
theorem sub_real_eq_bot (x : EReal) (r : ℝ) : x - r = ⊥ ↔ x = ⊥ := by
  induction x with
  | bot => simp
  | top => simp
  | coe a => rw [← EReal.coe_sub]; exact ⟨fun h => absurd h (EReal.coe_ne_bot _), fun h => absurd h (EReal.coe_ne_bot _)⟩

end Cert.Noise

end
-- ==== Proof.Row.lean ====
/-
  A row of the problem over the extended reals: its masked logits, the noise of each entry, the noisy logits and the exponentials.
-/
module

public import proofs.«01_k».proof.Proof.Lanes
public import proofs.«01_k».proof.Proof.Argmax
public import proofs.«01_k».proof.Proof.Noise
public import Idealize.ShloMosaic.Lib.Pointwise.Index

@[expose] public section

noncomputable section

namespace Cert.Row

open Cert.Cipher Cert.Lanes
open Idealize.ShloMosaic

/-- The arrays' shape. -/
abbrev SA : Shape := ⟨2, ![32, 1000000]⟩
/-- A row's column. -/
abbrev at_ (i : Fin 32) (n : Fin 1000000) : SA.Idx := ix2 (n0 := 32) (n1 := 1000000) i n

/-- Row `i`'s masked logit at column `n`; the least value past the row. -/
def mlog (A : SA.Idx → EReal) (K : SA.Idx → W) (i : Fin 32) (n : ℕ) : EReal :=
  if h : n < 1000000 then masked (F := Ideal) (A (at_ i ⟨n, h⟩)) (K (at_ i ⟨n, h⟩)) else ⊥
/-- The noise taken from it. -/
def noise (i : Fin 32) (n : ℕ) : EReal := loglog (F := Ideal) (oneTo2 (word (ctr i.val n)))
/-- The noisy logit. -/
def noisyAt (A : SA.Idx → EReal) (K : SA.Idx → W) (i : Fin 32) (n : ℕ) : EReal := mlog A K i n - noise i n
/-- The exponential of the masked logit. -/
def expAt (A : SA.Idx → EReal) (K : SA.Idx → W) (i : Fin 32) (n : ℕ) : EReal := Ideal.exp (mlog A K i n)

theorem mlog_in (A : SA.Idx → EReal) (K : SA.Idx → W) (i : Fin 32) (n : Fin 1000000) :
    mlog A K i n.val = masked (F := Ideal) (A (at_ i n)) (K (at_ i n)) := dif_pos n.isLt

/-- The noise is a real number. -/
theorem noise_real (i : Fin 32) (n : ℕ) : ∃ r : ℝ, noise i n = (r : EReal) := by
  obtain ⟨u, r, -, -, -, -, -, h⟩ := Cert.Noise.noise_real (word (ctr i.val n))
  exact ⟨r, h⟩

/-- So a noisy logit is the least value only where the masked logit is. -/
theorem noisyAt_eq_bot (A : SA.Idx → EReal) (K : SA.Idx → W) (i : Fin 32) (n : ℕ) : noisyAt A K i n = ⊥ ↔ mlog A K i n = ⊥ := by
  obtain ⟨r, h⟩ := noise_real i n
  unfold noisyAt
  rw [h]
  exact Cert.Noise.sub_real_eq_bot _ r

/-- The noise added back. -/
theorem noisyAt_add (A : SA.Idx → EReal) (K : SA.Idx → W) (i : Fin 32) (n : ℕ) : noisyAt A K i n + noise i n = mlog A K i n := by
  obtain ⟨r, h⟩ := noise_real i n
  unfold noisyAt
  rw [h]
  exact Cert.Noise.sub_add_real _ r

end Cert.Row

end
-- ==== Proof.Rows.lean ====
/-
  What the kernel reads off its lanes and the tail block, row by row, over the extended reals: the greatest values, the least
  counters among the entries that tie, the sums, and from them the row's winner and its sum.
-/
module

public import proofs.«01_k».proof.Proof.Tail
public import proofs.«01_k».proof.Proof.Argmax
public import Idealize.ShloMosaic.Lib.Pointwise

@[expose] public section

set_option maxRecDepth 16384

noncomputable section

namespace Cert.KernelIdeal.Rows

open Cert.KernelIdeal Cert.KernelIdeal.Gen Cert.Cipher Cert.Lanes Cert.KernelIdeal.Finish Cert.KernelIdeal.Tail
open Idealize.ShloMosaic

/-- Lane `l` of a row of the lanes. -/
abbrev lane (j : S32x1.Idx) (l : Fin 2048) : S32x2048.Idx := ix2 (n0 := 32) (n1 := 2048) (j 0) l
/-- Column `l` of a row of the tail block. -/
abbrev col (j : S32x1.Idx) (l : Fin 1024) : S32x1024.Idx := ix2 (n0 := 32) (n1 := 1024) (j 0) l

/-- The pattern of minus infinity is the least extended real. -/
theorem ninf : (FloatOps.ofBits (F := Ideal) .f32 0xFF800000#32 : EReal) = ⊥ := by
  show Ideal.ofBits .f32 0xFF800000#32 = ⊥
  simp [Ideal.ofBits, Ideal.ieee]
/-- The pattern of zero is zero. -/
theorem zero32 : (FloatOps.ofBits (F := Ideal) .f32 0x00000000#32 : EReal) = 0 := by
  show Ideal.ofBits .f32 0x00000000#32 = 0
  simp [Ideal.ofBits, Ideal.ieee]
/-- The padding constant is the least extended real. -/
theorem pad : (Named.named (F := Ideal) (φ := .f32) κ "pad" 0xFF61B1E6#32 : EReal) = ⊥ := by
  show (κ "pad").getD _ = ⊥
  rfl

/-- A row's only column. -/
theorem only (j : S32x1.Idx) : ∃ i : Fin 32, j = ix2 (n0 := 32) (n1 := 1) i 0 :=
  ⟨j 0, by
    funext a
    fin_cases a
    · rfl
    · exact Subsingleton.elim (α := Fin 1) _ _⟩

/-- Whether two extended reals are equal, as a bit of a choice. -/
theorem select_oeq {α : Type} (x y : EReal) (a b : α) :
    Scalar.select (FloatOps.cmpf (F := Ideal) (φ := .f32) .oeq x y) a b = if x = y then a else b := by
  show Scalar.select (BitVec.ofBool (decide (x = y))) a b = _
  by_cases h : x = y <;> simp [Scalar.select, h]
/-- Whether one is greater, as a bit of a choice. -/
theorem select_ogt {α : Type} (x y : EReal) (a b : α) :
    Scalar.select (FloatOps.cmpf (F := Ideal) (φ := .f32) .ogt x y) a b = if y < x then a else b := by
  show Scalar.select (BitVec.ofBool (decide (y < x))) a b = _
  by_cases h : y < x <;> simp [Scalar.select, h]

/-- A row's greatest value over the lanes. -/
theorem max_lanes (r : FVec Ideal S32x2048 .f32) (j : S32x1.Idx) :
    k0_pay105 r j = Finset.univ.fold max ⊥ fun l => r (lane j l) := by
  rw [← ninf]
  unfold k0_pay105
  pointwise

/-- The least counter among a row's lanes that tie. -/
theorem min_lanes (r : FVec Ideal S32x2048 .f32) (x : IVec S32x2048 32) (j : S32x1.Idx) :
    k0_pay106 (F := Ideal) r x j
      = Finset.univ.fold IntOp.minsi 2147483647#32 fun l => if r (lane j l) = k0_pay105 r j then x (lane j l) else 2147483647#32 := by
  obtain ⟨i, rfl⟩ := only j
  simp only [← select_oeq]
  unfold k0_pay106
  pointwise
  rfl

/-- The sum over a row's lanes. -/
theorem sum_lanes (s : FVec Ideal S32x2048 .f32) (j : S32x1.Idx) : k0_pay107 s j = ∑ l, s (lane j l) := by
  unfold k0_pay107
  pointwise

/-- A row's greatest noisy logit in the tail block. -/
theorem max_tail (a : FVec Ideal S32x1024 .f32) (k : IVec S32x1024 32) (j : S32x1.Idx) :
    k0_pay154 (F := Ideal) k0_pay110 w184 w189 k a j = Finset.univ.fold max ⊥ fun l => tailN (tailX a k) (col j l) := by
  rw [← ninf, ← pay153_eq]
  unfold k0_pay154
  pointwise

/-- A choice of counters where an array ties with its rows' values `M`, at an index. -/
theorem tie_apply (N : FVec Ideal S32x1024 .f32) (M : FVec Ideal S32x1 .f32) (i : Fin 32) (l : Fin 1024) :
    (cmpf .oeq N (broadcastTo S32x1024 M broadcasts_S32x1_S32x1024)) (ix2 (n0 := 32) (n1 := 1024) i l)
      = FloatOps.cmpf (F := Ideal) (φ := .f32) .oeq (N (ix2 (n0 := 32) (n1 := 1024) i l)) (M (ix2 (n0 := 32) (n1 := 1) i 0)) := by
  pointwise

/-- The least counter among a row's entries that are chosen, or the lanes' counter where the tail's value is not the greater. -/
theorem min_chosen (v18 v228 : FVec Ideal S32x1 .f32) (v24 : IVec S32x1 32) (c : IVec S32x1024 32) (b : IVec S32x1024 1) (i : Fin 32) :
    k0_pay157 (F := Ideal) v18 v24 c v228 b 2147483647#32 (ix2 (n0 := 32) (n1 := 1) i 0)
      = if v18 (ix2 (n0 := 32) (n1 := 1) i 0) < v228 (ix2 (n0 := 32) (n1 := 1) i 0) then
          Finset.univ.fold IntOp.minsi 2147483647#32 fun l : Fin 1024 =>
            Scalar.select (b (ix2 (n0 := 32) (n1 := 1024) i l)) (c (ix2 (n0 := 32) (n1 := 1024) i l)) 2147483647#32
        else v24 (ix2 (n0 := 32) (n1 := 1) i 0) := by
  rw [← select_ogt]
  unfold k0_pay157
  pointwise

/-- The least counter among the tail's entries that tie. -/
theorem min_tail (v18 v228 : FVec Ideal S32x1 .f32) (v24 : IVec S32x1 32) (a : FVec Ideal S32x1024 .f32) (k : IVec S32x1024 32) (i : Fin 32) :
    k0_pay157 (F := Ideal) v18 v24 k0_pay111 v228 (k0_pay155 (F := Ideal) k0_pay110 w184 w189 k a) 2147483647#32 (ix2 (n0 := 32) (n1 := 1) i 0)
      = if v18 (ix2 (n0 := 32) (n1 := 1) i 0) < v228 (ix2 (n0 := 32) (n1 := 1) i 0) then
          Finset.univ.fold IntOp.minsi 2147483647#32 fun l =>
            if tailN (tailX a k) (ix2 (n0 := 32) (n1 := 1024) i l) = k0_pay154 (F := Ideal) k0_pay110 w184 w189 k a (ix2 (n0 := 32) (n1 := 1) i 0)
            then k0_pay111 (ix2 (n0 := 32) (n1 := 1024) i l) else 2147483647#32
        else v24 (ix2 (n0 := 32) (n1 := 1) i 0) := by
  rw [min_chosen]
  have e : k0_pay155 (F := Ideal) k0_pay110 w184 w189 k a
      = cmpf .oeq (tailN (tailX a k)) (broadcastTo S32x1024 (k0_pay154 (F := Ideal) k0_pay110 w184 w189 k a) broadcasts_S32x1_S32x1024) := by
    rw [← pay153_eq]; rfl
  simp only [e, tie_apply, select_oeq]

/-- The lanes' sum and the tail's together. -/
theorem sum_tail (v26 : FVec Ideal S32x1 .f32) (T : FVec Ideal S32x1024 .f32) (j : S32x1.Idx) :
    k0_pay158 v26 T j = v26 j + ∑ l, Ideal.exp (T (col j l)) := by
  unfold k0_pay158
  pointwise

end Cert.KernelIdeal.Rows

end
-- ==== Proof.RefValue.lean ====
/-
  What the reference computes, row by row, over the extended reals: the masked logits, the noise, the winner of the noisy logits, and
  the softmax's logarithm.
-/
module

public import proofs.«01_k».proof.Proof.RefWords
public import proofs.«01_k».proof.Proof.Row
public import Idealize.ShloMosaic.Lib.Pointwise
public import proofs.«01_k».proof.Proof.Rows

@[expose] public section

noncomputable section

namespace Cert.ReferenceIdeal.RefValue

open Cert.ReferenceIdeal Cert.ReferenceIdeal.Gen Cert.ReferenceIdeal.Read Cert.ReferenceIdeal.Words Cert.Cipher Cert.Lanes Cert.Row Cert.Argmax
open Idealize.ShloMosaic

/-- Minus the noise, from the reference's uniform number. -/
theorem gumbel_generic {F : FTy → Type} [FloatOps F] (i : S32x1000000.Idx) : val_main_v202 (F := F) i
    = FloatOps.hostNegf (FloatOps.hostUnary .log (FloatOps.hostNegf (FloatOps.hostUnary .log (FloatOps.maximumf (FloatOps.ofBits .f32 0x00800000#32)
        (FloatOps.addf (FloatOps.mulf (FloatOps.subf (FloatOps.ofBits .f32 (IntOp.ori (IntOp.shrui .host (val_main_v185 (F := F) i) 9#32) 1065353216#32)) (FloatOps.ofBits .f32 0x3F800000#32))
          (FloatOps.ofBits .f32 0x3F800000#32)) (FloatOps.ofBits .f32 0x00800000#32)))))) := by
  rw [val_main_v202_apply, val_main_v201_apply, val_main_v200_apply, val_main_v199_apply, val_main_v198_apply, val_main_v197_apply, val_main_v196_apply,
    val_main_v195_apply, val_main_v194_apply, val_main_v193_apply, val_main_v192_apply, val_main_v191_apply, val_main_v190_apply, val_main_v189_apply,
    val_main_v188_apply, val_main_v187_apply, val_main_v186_apply]
  generalize val_main_v185 (F := F) i = w
  rfl

/-- The choice's number in [1, 2) is the same with the host's shift. -/
theorem oneTo2_host (w : W) :
    FloatOps.ofBits (F := Ideal) .f32 (IntOp.ori (IntOp.shrui .host w 9#32) 1065353216#32) = oneTo2 (F := Ideal) w := by
  have e : IntOp.shrui .host w 9#32 = IntOp.shrui .vector w 9#32 := by
    rw [show IntOp.shrui .vector w 9#32 = w >>> 9 from if_pos (by decide), show IntOp.shrui .host w 9#32 = w >>> 9 from if_pos (by decide)]
  rw [e]; rfl

/-- The Gumbel variable of a word. -/
theorem gumbel_word (x : EReal) (u r : ℝ) (ht : (2 : ℝ) ^ (-126 : ℤ) ≤ u) (hx : (x - ((1 : ℝ) : EReal)) + (((2 : ℝ) ^ (-126 : ℤ) : ℝ) : EReal) = (u : EReal))
    (hr : Ideal.log (-(Ideal.log (u : EReal))) = (r : EReal)) :
    FloatOps.hostNegf (F := Ideal) (φ := .f32) (FloatOps.hostUnary .log (FloatOps.hostNegf (FloatOps.hostUnary .log (FloatOps.maximumf (FloatOps.ofBits .f32 0x00800000#32)
        (FloatOps.addf (FloatOps.mulf (FloatOps.subf (F := Ideal) (φ := .f32) x (FloatOps.ofBits .f32 0x3F800000#32))
          (FloatOps.ofBits .f32 0x3F800000#32)) (FloatOps.ofBits .f32 0x00800000#32)))))) = ((-r : ℝ) : EReal) := by
  have e1 : FloatOps.ofBits (F := Ideal) .f32 0x3F800000#32 = ((1 : ℝ) : EReal) := Cert.Noise.one
  have e2 : FloatOps.ofBits (F := Ideal) .f32 0x00800000#32 = (((2 : ℝ) ^ (-126 : ℤ) : ℝ) : EReal) := Cert.Noise.tiny
  rw [e1, e2]
  show -(Ideal.log (-(Ideal.log (max (((2 : ℝ) ^ (-126 : ℤ) : ℝ) : EReal) ((x - ((1 : ℝ) : EReal)) * ((1 : ℝ) : EReal) + (((2 : ℝ) ^ (-126 : ℤ) : ℝ) : EReal)))))) = _
  rw [EReal.coe_one, mul_one, ← EReal.coe_one, hx, max_eq_right (EReal.coe_le_coe_iff.mpr ht), hr, EReal.coe_neg]

/-- An entry's Gumbel variable is minus its noise. -/
theorem gumbel (i : Fin 32) (n : Fin 1000000) : ∃ r : ℝ, noise i n.val = (r : EReal) ∧ (val_main_v202 (F := Ideal) (at_ i n) : EReal) = ((-r : ℝ) : EReal) := by
  obtain ⟨u, r, -, -, ht, hx, hr, h⟩ := Cert.Noise.noise_real (word (ctr i.val n.val))
  refine ⟨r, h, ?_⟩
  rw [gumbel_generic, word_eq, oneTo2_host]
  exact gumbel_word _ u r ht hx hr

variable (A : SA.Idx → EReal) (K : SA.Idx → W) (i : Fin 32)

/-- The masked logit. -/
theorem logit (n : Fin 1000000) : (val_main_v2 (F := Ideal) A K (at_ i n) : EReal) = mlog A K i n.val := by
  rw [mlog_in]; rfl

/-- The noisy logit. -/
theorem noisy_at (n : Fin 1000000) : (val_main_v203 (F := Ideal) A K (at_ i n) : EReal) = noisyAt A K i n.val := by
  obtain ⟨r, h, hg⟩ := gumbel i n
  rw [val_main_v203_apply, Ideal.addf_def, hg, logit]
  unfold noisyAt
  rw [h, EReal.coe_neg, add_comm, sub_eq_add_neg]

/-- A row's entry, from the row. -/
abbrev row_ (i : Fin 32) : S32.Idx := ix1 (n0 := 32) i

/-- A host reduction of a matrix's rows, read at a row. -/
theorem reduce_row {n0 n1 : ℕ} {α : Type} {u : Shape} (f : α → α → α) [Std.Commutative f] [Std.Associative f]
    (x : (⟨2, ![n0, n1]⟩ : Shape).Idx → α) (init : u.Idx → α) (h : (⟨2, ![n0, n1]⟩ : Shape).ReducesTo [1] ⟨1, ![n0]⟩) (hu : 0 < u.numel)
    (g : Fin n1 → α) (b : α) (i : Fin n0) (hg : ∀ k, x (ix2 (n0 := n0) (n1 := n1) i k) = g k) (hb : init (Shape.Idx.first hu) = b) :
    Host.reduce f x init h hu (ix1 (n0 := n0) i) = Finset.univ.fold f b g := by
  rw [Host.reduce_eq_fold, Shape.ReducesTo.fold_fiber_r2_a1, hb]
  exact Finset.fold_congr fun k _ => hg k

/-- The row's greatest noisy logit. -/
theorem top_at : (val_main_v204 (F := Ideal) A K (row_ i) : EReal)
    = Finset.univ.fold max ⊥ fun n : Fin 1000000 => noisyAt A K i n.val :=
  reduce_row (α := EReal) (n0 := 32) (n1 := 1000000) max (val_main_v203 (F := Ideal) A K) (val_main_cst_56 (F := Ideal)) reducesTo_S32x1000000_S32_d1 h_S_ _ ⊥ i
    (fun n => noisy_at A K i n) Cert.Noise.ninf

/-- The row's greatest masked logit. -/
theorem peak_at : (val_main_call2_v0 (F := Ideal) A K (row_ i) : EReal)
    = Finset.univ.fold max ⊥ fun n : Fin 1000000 => mlog A K i n.val :=
  reduce_row (α := EReal) (n0 := 32) (n1 := 1000000) max (val_main_v2 (F := Ideal) A K) (val_main_call2_cst (F := Ideal)) reducesTo_S32x1000000_S32_d1 h_S_ _ ⊥ i
    (fun n => logit A K i n) Cert.Noise.ninf

/-- The winner's noisy logit is the greatest. -/
theorem top_win {n : ℕ} (h : IsWin 1000000 (noisyAt A K i) n) :
    (Finset.univ.fold max ⊥ fun n : Fin 1000000 => noisyAt A K i n.val) = noisyAt A K i n :=
  le_antisymm (foldmax_le _ _ fun l => h.le l.val l.isLt) (le_foldmax (fun n : Fin 1000000 => noisyAt A K i n.val) ⟨n, h.lt⟩)

/-- A column among those that tie for the greatest, or one past the row. -/
theorem tied (n : Fin 1000000) {v : ℕ} (h : IsWin 1000000 (noisyAt A K i) v) :
    val_main_v209 (F := Ideal) A K (at_ i n) = if noisyAt A K i n.val = noisyAt A K i v then BitVec.ofNat 32 n.val else 1000000#32 := by
  have e1 : val_main_v206 (F := Ideal) A K (at_ i n) = noisyAt A K i v := by
    refine (val_main_v206_apply (F := Ideal) A K (at_ i n)).trans ((val_main_v205_apply (F := Ideal) A K _).trans ?_)
    refine Eq.trans (congrArg (val_main_v204 (F := Ideal) A K) (?_ : _ = row_ i)) ((top_at A K i).trans (top_win A K i h))
    funext a
    match a with
    | ⟨0, _⟩ => rfl
  have e2 : val_main_call1_v0 (F := Ideal) (at_ i n) = 1000000#32 := by
    unfold val_main_call1_v0
    pointwise
    rfl
  rw [val_main_v209_apply, val_main_v207_apply, noisy_at, e1, e2, Cert.KernelIdeal.Rows.select_oeq]
  rfl

/-- A word below `2 ^ 31`, as an integer. -/
theorem small (n : ℕ) (h : n < 2 ^ 31) : (BitVec.ofNat 32 n).toInt = (n : ℤ) := by
  rw [BitVec.toInt_ofNat']
  exact Int.bmod_eq_of_le (by omega) (by omega)

/-- The sample is the winner. -/
theorem sample {v : ℕ} (h : IsWin 1000000 (noisyAt A K i) v) : val_main_v210 (F := Ideal) A K (row_ i) = BitVec.ofNat 32 v := by
  have hv := h.lt
  have e : val_main_v210 (F := Ideal) A K (row_ i)
      = Finset.univ.fold IntOp.minsi 2147483647#32 fun n : Fin 1000000 => val_main_v209 (F := Ideal) A K (at_ i n) :=
    reduce_row (n0 := 32) (n1 := 1000000) IntOp.minsi (val_main_v209 (F := Ideal) A K) (val_main_c_58 (F := Ideal)) reducesTo_S32x1000000_S32_d1 h_S_ _ _ i
      (fun n => rfl) rfl
  refine e.trans ?_
  refine foldmin_eq _ _ _ ?_ ⟨⟨v, h.lt⟩, ?_⟩ fun l => ?_
  · rw [small v (by omega), show (2147483647#32).toInt = 2147483647 by decide]
    omega
  · rw [tied A K i _ h]; exact if_pos rfl
  · have hl := l.isLt
    rw [tied A K i l h, small v (by omega)]
    split
    · rename_i heq
      rw [small l.val (by omega)]
      exact_mod_cast h.le_of_eq heq
    · rw [show (1000000#32).toInt = 1000000 by decide]
      omega

end Cert.ReferenceIdeal.RefValue

end
-- ==== Proof.Allowed.lean ====
/-
  What the precondition says over the extended reals: in every row some masked logit is above the least value.
-/
module

public import proofs.«01_k».proof.Proof.RefValue
public import proofs.«01_k».proof.Proof.Gen.Pre_some_entry_allowed
public import Idealize.ShloMosaic.Lib.ReduceAll

@[expose] public section

noncomputable section

namespace Cert.Allowed

open Cert.Cipher Cert.Row Cert.ReferenceIdeal.RefValue
open Idealize.ShloMosaic

/-- A fold of bits by `or` from zero that is one met a one. -/
theorem foldor_one {k : ℕ} (x : Fin k → BitVec 1) (h : Finset.univ.fold IntOp.ori 0#1 x = 1#1) : ∃ l, x l = 1#1 := by
  by_contra hne
  have hz : ∀ l, x l = 0#1 := fun l => by
    rcases BitVec.eq_zero_or_eq_one (x l) with e | e
    · exact e
    · exact absurd ⟨l, e⟩ hne
  have hf : ∀ s : Finset (Fin k), s.fold IntOp.ori 0#1 x = 0#1 := fun s => by
    induction s using Finset.induction_on with
    | empty => rfl
    | insert a s ha ih => rw [Finset.fold_insert ha, ih, hz]; rfl
  rw [hf] at h
  exact absurd h (by decide)

/-- A comparison with the pattern of minus infinity that holds says that the value is not the least. -/
theorem above (x : EReal) (h : FloatOps.cmpf (F := Ideal) (φ := .f32) .ogt x (FloatOps.ofBits .f32 0xFF800000#32) = 1#1) : x ≠ ⊥ := by
  intro e
  have e0 : FloatOps.ofBits (F := Ideal) .f32 0xFF800000#32 = (⊥ : EReal) := Cert.Noise.ninf
  rw [e0, e] at h
  have : FloatOps.cmpf (F := Ideal) (φ := .f32) .ogt (⊥ : EReal) (⊥ : EReal) = 0#1 := by
    show BitVec.ofBool (decide ((⊥ : EReal) < ⊥)) = 0#1
    rw [decide_eq_false (lt_irrefl _)]; rfl
  rw [this] at h
  exact absurd h (by decide)

open Cert.Pre_some_entry_allowed Cert.Pre_some_entry_allowed.Gen in
/-- The precondition's bit, one comparison per entry, then one bit per row. -/
theorem fn_eq (A : SA.Idx → EReal) (K : SA.Idx → W) : fn (F := Ideal) A K
    = Host.reduce IntOp.andi (Host.reduce IntOp.ori
        (fun j => FloatOps.cmpf (F := Ideal) (φ := .f32) .ogt (masked (F := Ideal) (A j) (K j)) (FloatOps.ofBits .f32 0xFF800000#32))
        (constantI S_ 1 0#1) reducesTo_S32x1000000_S32_d1 h_S_) (constantI S_ 1 1#1) reducesTo_S32_S_d0 h_S_ := rfl

/-- Every row has an entry above the least value. -/
theorem allowed (A : SA.Idx → EReal) (K : SA.Idx → W) (h : Cert.Pre_some_entry_allowed.fn (F := Ideal) A K = fun _ => 1#1) (i : Fin 32) :
    ∃ k, k < 1000000 ∧ mlog A K i k ≠ ⊥ := by
  rw [fn_eq] at h
  have : Subsingleton Cert.Pre_some_entry_allowed.S_.Idx := ⟨fun a b => funext fun x => x.elim0⟩
  have h1 := Host.reduce_andi_all _ _ _ _ (fun x => x.elim0) (congrFun h _) (ix1 (n0 := 32) i)
  have h2 := (reduce_row (n0 := 32) (n1 := 1000000) IntOp.ori _ _ _ _ _ 0#1 i (fun k => rfl) rfl).symm.trans h1
  obtain ⟨k, hk⟩ := foldor_one _ h2
  refine ⟨k.val, k.isLt, ?_⟩
  rw [mlog_in]
  exact above _ hk

end Cert.Allowed

end
-- ==== Proof.Blocks.lean ====
/-
  What the kernel's staging buffers hold, as entries of the argument arrays.
-/
module

public import proofs.«01_k».proof.Proof.Run
public import Idealize.ShloMosaic.Lib.Pipeline.ValueKit
public import Idealize.ShloMosaic.Lib.Pipeline.ValueKit.Point

@[expose] public section

set_option maxRecDepth 16384

noncomputable section

namespace Cert.KernelIdeal.Blocks

open Cert.KernelIdeal Cert.KernelIdeal.Gen Cert.KernelIdeal.Run
open Idealize.ShloMosaic Idealize.ShloMosaic.TcCoe

variable {F : FTy → Type} [FloatOps F] [Named F]
variable (m : (ℓ : Loc nD τ sig) → Buf (Elt F) ℓ)

/-- The blocks' indices at each point. -/
theorem idx0 : ∀ t : Fin cfg0.N, win0_0.index t = ![0, t.val] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, 976] := (by decide +kernel : ∀ t : Fin grid0.N, _)
theorem idx3 : ∀ t : Fin cfg0.N, win0_3.index t = ![0, 976] := (by decide +kernel : ∀ t : Fin grid0.N, _)

theorem t_lt (t : Fin cfg0.N) : t.val < 122 := N_0 ▸ t.isLt

/-- The first window's block: the logits' columns from `8192 * t` on. -/
theorem logits_at (c : Dev nD) (t : Fin cfg0.N) (j : S32x8192.Idx) :
    X0_0 m c t j = m ((c : Thread nD τ).loc main_arg0)
      (ix2 (n0 := 32) (n1 := 1000000) (j 0) ⟨t.val * 8192 + (j 1).val, by have := t_lt t; have h : (j 1).val < 8192 := (j 1).isLt; omega⟩) := by
  have h1 : (j 1).val < 8192 := (j 1).isLt
  unfold X0_0 Pipeline.Window.fill
  rw [dif_pos (moved0_0 t j)]
  blk_ext! [iblk, V, idx0 t]

/-- The second's: the mask's. -/
theorem mask_at (c : Dev nD) (t : Fin cfg0.N) (j : S32x8192.Idx) :
    X0_1 m c t j = m ((c : Thread nD τ).loc main_arg1)
      (ix2 (n0 := 32) (n1 := 1000000) (j 0) ⟨t.val * 8192 + (j 1).val, by have := t_lt t; have h : (j 1).val < 8192 := (j 1).isLt; omega⟩) := by
  have h1 : (j 1).val < 8192 := (j 1).isLt
  unfold X0_1 Pipeline.Window.fill
  rw [dif_pos (moved0_1 t j)]
  blk_ext! [iblk, V, idx1 t]

/-- The third's, inside the row: the logits' last columns. -/
theorem logits_tail (c : Dev nD) (t : Fin cfg0.N) (j : S32x1024.Idx) (h : (j 1).val < 576) :
    X0_2 m c t j = m ((c : Thread nD τ).loc main_arg0) (ix2 (n0 := 32) (n1 := 1000000) (j 0) ⟨999424 + (j 1).val, by omega⟩) := by
  unfold X0_2 Pipeline.Window.fill
  rw [dif_pos (moved0_2 t j h)]
  blk_ext! [iblk, V, idx2 t]

/-- The fourth's: the mask's. -/
theorem mask_tail (c : Dev nD) (t : Fin cfg0.N) (j : S32x1024.Idx) (h : (j 1).val < 576) :
    X0_3 m c t j = m ((c : Thread nD τ).loc main_arg1) (ix2 (n0 := 32) (n1 := 1000000) (j 0) ⟨999424 + (j 1).val, by omega⟩) := by
  unfold X0_3 Pipeline.Window.fill
  rw [dif_pos (moved0_3 t j h)]
  blk_ext! [iblk, V, idx3 t]

end Cert.KernelIdeal.Blocks

end
-- ==== Proof.KernelValue.lean ====
/-
  What the kernel's results hold over the extended reals: each row's first greatest noisy logit, and its masked logit less the
  logarithm of the row's sum of exponentials.
-/
module

public import proofs.«01_k».proof.Proof.Blocks
public import proofs.«01_k».proof.Proof.Rows
public import proofs.«01_k».proof.Proof.Row
public import Idealize.ShloMosaic.Lib.WordCmp

@[expose] public section

set_option maxRecDepth 16384

noncomputable section

namespace Cert.KernelIdeal.KernelValue

open Cert.KernelIdeal Cert.KernelIdeal.Gen Cert.KernelIdeal.Run Cert.KernelIdeal.Trip Cert.KernelIdeal.Body Cert.KernelIdeal.Finish
open Cert.KernelIdeal.Tail Cert.KernelIdeal.Rows Cert.KernelIdeal.Blocks Cert.Cipher Cert.Lanes Cert.Row Cert.Argmax
open Idealize.ShloMosaic Idealize.ShloMosaic.TcCoe Idealize.ShloMosaic.WordCmp

variable (m : (ℓ : Loc nD τ sig) → Buf (Elt Ideal) ℓ)

/-- The logits and the mask on a core. -/
abbrev argA (c : Dev nD) : SA.Idx → EReal := m ((c : Thread nD τ).loc main_arg0)
abbrev argK (c : Dev nD) : SA.Idx → W := m ((c : Thread nD τ).loc main_arg1)

/-! ## The lanes -/

/-- The lane's offset. -/
theorem pay1_apply (j : S32x2048.Idx) : k0_pay1 j = BitVec.ofNat 32 ((j 0).val * 1000000 + (j 1).val + 42) := by
  have e0 : iota .tc S32x2048 32 [0] iota_S32x2048_d0_w32 j = BitVec.ofNat 32 (j 0).val := by rw [iota_apply]; simp
  have e1 : iota .tc S32x2048 32 [1] iota_S32x2048_d1_w32 j = BitVec.ofNat 32 (j 1).val := by rw [iota_apply]; simp
  have e : k0_pay1 j = IntOp.addi (IntOp.addi (IntOp.muli (iota .tc S32x2048 32 [0] iota_S32x2048_d0_w32 j) 1000000#32)
    (iota .tc S32x2048 32 [1] iota_S32x2048_d1_w32 j)) 42#32 := rfl
  rw [e, e0, e1, muli_ofNat, addi_ofNat]
  exact addi_ofNat _ _

/-- A trip's offsets inside the block. -/
theorem off_word (k : ℕ) (hk : k < 2) :
    Scalar.addi (Scalar.muli (Scf.iv 0#32 1#32 k) 4096#32) 0#32 = BitVec.ofNat 32 (4096 * k)
      ∧ Scalar.addi (Scalar.muli (Scf.iv 0#32 1#32 k) 4096#32) 2048#32 = BitVec.ofNat 32 (4096 * k + 2048) := by
  interval_cases k <;> decide

/-- Words of naturals, multiplied and added. -/
theorem add3 (a b c d : ℕ) : IntOp.addi (BitVec.ofNat 32 a) (IntOp.addi (IntOp.muli (BitVec.ofNat 32 b) (BitVec.ofNat 32 c)) (BitVec.ofNat 32 d))
    = BitVec.ofNat 32 (a + (b * c + d)) := by rw [muli_ofNat, addi_ofNat, addi_ofNat]

/-- The counter at a block's column. -/
theorem xAt_ctr (t : ℕ) (j : S32x2048.Idx) (o : ℕ) :
    xAt (BitVec.ofNat 32 t) j (BitVec.ofNat 32 o) = ctr (j 0).val (t * 8192 + o + (j 1).val) := by
  have e : xAt (BitVec.ofNat 32 t) j (BitVec.ofNat 32 o)
      = IntOp.addi (k0_pay1 j) (IntOp.addi (IntOp.muli (BitVec.ofNat 32 t) (BitVec.ofNat 32 8192)) (BitVec.ofNat 32 o)) := rfl
  exact e.trans ((congrArg (fun z => IntOp.addi z _) (pay1_apply j)).trans ((add3 _ _ _ _).trans (congrArg (BitVec.ofNat 32) (by ring))))

/-- One column taken into a lane. -/
theorem step_ok (A : SA.Idx → EReal) (K : SA.Idx → W) (i : Fin 32) (l T : ℕ) (h : T * 2048 + l < 1000000) (s : Lane Ideal) (a : EReal) (k x : W)
    (ha : a = A (at_ i ⟨T * 2048 + l, h⟩)) (hk : k = K (at_ i ⟨T * 2048 + l, h⟩)) (hx : x = ctr i.val (T * 2048 + l))
    (hs : LaneOk T (fun q => noisyAt A K i (q * 2048 + l)) (fun q => expAt A K i (q * 2048 + l)) (fun q => ctr i.val (q * 2048 + l)) s) :
    LaneOk (T + 1) (fun q => noisyAt A K i (q * 2048 + l)) (fun q => expAt A K i (q * 2048 + l)) (fun q => ctr i.val (q * 2048 + l))
      (step (F := Ideal) a k x s) := by
  have hm : masked (F := Ideal) a k = mlog A K i (T * 2048 + l) := by
    rw [ha, hk]; exact (mlog_in A K i ⟨T * 2048 + l, h⟩).symm
  have hn : noisy (F := Ideal) a k x = noisyAt A K i (T * 2048 + l) := by
    have e : noisy (F := Ideal) a k x = (masked (F := Ideal) a k : EReal) - loglog (F := Ideal) (oneTo2 (word x)) := rfl
    rw [e, hm, hx]; rfl
  have e : step (F := Ideal) a k x s = (max (noisy (F := Ideal) a k x : EReal) s.1,
      Scalar.select (BitVec.ofBool (decide (s.1 < (noisy (F := Ideal) a k x : EReal)))) x s.2.1, s.2.2 + Ideal.exp (masked (F := Ideal) a k)) := rfl
  rw [e, hn, hm, hx]
  exact hs.succ

/-- The lanes after `n` points. -/
theorem lanes_ok (c : Dev nD) (j : S32x2048.Idx) : ∀ n, n ≤ 122 →
    LaneOk (4 * n) (fun q => noisyAt (argA m c) (argK m c) (j 0) (q * 2048 + (j 1).val)) (fun q => expAt (argA m c) (argK m c) (j 0) (q * 2048 + (j 1).val))
      (fun q => ctr (j 0).val (q * 2048 + (j 1).val)) (lanesAt m c n j) := by
  have hl : (j 1).val < 2048 := (j 1).isLt
  intro n
  induction n with
  | zero =>
    intro _
    have e : lanesAt m c 0 j = ((⊥ : EReal), (0#32 : W), (0 : EReal)) := by
      have e1 : lanesAt m c 0 j = ((Named.named (F := Ideal) (φ := .f32) κ "pad" 0xFF61B1E6#32 : EReal), (0#32 : W),
        (FloatOps.ofBits (F := Ideal) .f32 0x00000000#32 : EReal)) := rfl
      rw [e1, pad, zero32]
    rw [e]
    exact LaneOk.zero _ _ _ _
  | succ n ih =>
    intro hn
    have hN : n < cfg0.N := Nat.lt_of_lt_of_eq (by omega) N_0.symm
    -- one trip's two columns
    have trip : ∀ k, k < 2 → ∀ s : Lane Ideal,
        LaneOk (4 * n + 2 * k) (fun q => noisyAt (argA m c) (argK m c) (j 0) (q * 2048 + (j 1).val)) (fun q => expAt (argA m c) (argK m c) (j 0) (q * 2048 + (j 1).val))
          (fun q => ctr (j 0).val (q * 2048 + (j 1).val)) s →
        LaneOk (4 * n + 2 * k + 1 + 1) (fun q => noisyAt (argA m c) (argK m c) (j 0) (q * 2048 + (j 1).val)) (fun q => expAt (argA m c) (argK m c) (j 0) (q * 2048 + (j 1).val))
          (fun q => ctr (j 0).val (q * 2048 + (j 1).val)) (tripL (F := Ideal) (X0_0 m c ⟨n, hN⟩) (X0_1 m c ⟨n, hN⟩) (BitVec.ofNat 32 n) k j s) := by
      intro k hk s hs
      unfold tripL
      refine step_ok (argA m c) (argK m c) (j 0) (j 1).val (4 * n + 2 * k + 1) (by omega) _ _ _ _ ?_ ?_ ?_
        (step_ok (argA m c) (argK m c) (j 0) (j 1).val (4 * n + 2 * k) (by omega) _ _ _ _ ?_ ?_ ?_ hs)
      · rw [logits_at]; congr 2; refine Fin.ext ?_; show n * 8192 + (4096 * k + 2048 + (j 1).val) % 8192 = _; simp only []; omega
      · rw [mask_at]; congr 2; refine Fin.ext ?_; show n * 8192 + (4096 * k + 2048 + (j 1).val) % 8192 = _; simp only []; omega
      · rw [(off_word k hk).2, xAt_ctr]; congr 1; ring
      · rw [logits_at]; congr 2; refine Fin.ext ?_; show n * 8192 + (4096 * k + (j 1).val) % 8192 = _; simp only []; omega
      · rw [mask_at]; congr 2; refine Fin.ext ?_; show n * 8192 + (4096 * k + (j 1).val) % 8192 = _; simp only []; omega
      · rw [(off_word k hk).1, xAt_ctr]; congr 1; ring
    have e : lanesAt m c (n + 1) j = tripL (F := Ideal) (X0_0 m c ⟨n, hN⟩) (X0_1 m c ⟨n, hN⟩) (BitVec.ofNat 32 n) 1 j
        (tripL (F := Ideal) (X0_0 m c ⟨n, hN⟩) (X0_1 m c ⟨n, hN⟩) (BitVec.ofNat 32 n) 0 j (lanesAt m c n j)) := by
      rw [lanesAt_succ m c ⟨n, hN⟩]; rfl
    rw [e]
    exact trip 1 (by omega) _ (trip 0 (by omega) _ (ih (by omega)))

/-! ## The tail -/

/-- The tail's counters are the row's. -/
theorem tail_ctr (i : Fin 32) (l : Fin 1024) : k0_pay111 (ix2 (n0 := 32) (n1 := 1024) i l) = ctr i.val (999424 + l.val) :=
  (pay111_apply (ix2 (n0 := 32) (n1 := 1024) i l)).trans
    (congrArg (BitVec.ofNat 32) (show i.val * 1000000 + l.val + 999424 + 42 = i.val * 1000000 + (999424 + l.val) + 42 by omega))

/-- Inside the row the tail's masked logits are the row's last ones, -/
theorem tail_in (c : Dev nD) (i : Fin 32) (l : Fin 1024) (h : l.val < 576) :
    (tailX (F := Ideal) (X0_2 m c tl) (X0_3 m c tl) (ix2 (n0 := 32) (n1 := 1024) i l) : EReal) = mlog (argA m c) (argK m c) i (999424 + l.val) := by
  rw [tailX_in _ _ _ h, logits_tail m c tl _ h, mask_tail m c tl _ h]
  exact (mlog_in (argA m c) (argK m c) i ⟨999424 + l.val, by omega⟩).symm
/-- past it the padding. -/
theorem tail_out (c : Dev nD) (i : Fin 32) (l : Fin 1024) (h : ¬ l.val < 576) :
    (tailX (F := Ideal) (X0_2 m c tl) (X0_3 m c tl) (ix2 (n0 := 32) (n1 := 1024) i l) : EReal) = ⊥ := by
  rw [tailX_out _ _ _ h]; exact pad

/-- The tail's noisy logits, likewise. -/
theorem tailN_in (c : Dev nD) (i : Fin 32) (l : Fin 1024) (h : l.val < 576) :
    (tailN (F := Ideal) (tailX (X0_2 m c tl) (X0_3 m c tl)) (ix2 (n0 := 32) (n1 := 1024) i l) : EReal)
      = noisyAt (argA m c) (argK m c) i (999424 + l.val) := by
  have e : (tailN (F := Ideal) (tailX (X0_2 m c tl) (X0_3 m c tl)) (ix2 (n0 := 32) (n1 := 1024) i l) : EReal)
      = (tailX (F := Ideal) (X0_2 m c tl) (X0_3 m c tl) (ix2 (n0 := 32) (n1 := 1024) i l) : EReal)
        - loglog (F := Ideal) (oneTo2 (word (k0_pay111 (ix2 (n0 := 32) (n1 := 1024) i l)))) := rfl
  rw [e, tail_in m c i l h, tail_ctr]; rfl
theorem tailN_out (c : Dev nD) (i : Fin 32) (l : Fin 1024) (h : ¬ l.val < 576) :
    (tailN (F := Ideal) (tailX (X0_2 m c tl) (X0_3 m c tl)) (ix2 (n0 := 32) (n1 := 1024) i l) : EReal) = ⊥ := by
  have e : (tailN (F := Ideal) (tailX (X0_2 m c tl) (X0_3 m c tl)) (ix2 (n0 := 32) (n1 := 1024) i l) : EReal)
      = (tailX (F := Ideal) (X0_2 m c tl) (X0_3 m c tl) (ix2 (n0 := 32) (n1 := 1024) i l) : EReal)
        - loglog (F := Ideal) (oneTo2 (word (k0_pay111 (ix2 (n0 := 32) (n1 := 1024) i l)))) := rfl
  rw [e, tail_out m c i l h, EReal.bot_sub]

/-! ## The row -/

/-- A row's counters as integers. -/
theorem ctr_toInt (i : Fin 32) (a : ℕ) (h : a < 999424 + 1024) : (ctr i.val a).toInt = ((i.val * 1000000 + a + 42 : ℕ) : ℤ) := by
  have hi := i.isLt
  have e : (ctr i.val a).toNat = i.val * 1000000 + a + 42 := by
    unfold ctr
    rw [BitVec.toNat_ofNat]
    exact Nat.mod_eq_of_lt (by omega)
  rw [toInt_eq_toNat_of_lt_half (by rw [e]; omega), e]

theorem counters (i : Fin 32) : Counters (999424 + 1024) (fun n => ctr i.val n) 2147483647#32 where
  mono a b hab hb := by
    simp only [ctr_toInt i a (by omega), ctr_toInt i b hb]
    exact_mod_cast (by omega)
  top a ha := by
    have hi := i.isLt
    simp only [ctr_toInt i a ha]
    rw [show (2147483647#32 : BitVec 32).toInt = ((2147483647 : ℕ) : ℤ) from by decide]
    exact_mod_cast (by omega)

/-- A row's column off its counter. -/
theorem pay8_apply (v : IVec S32x1 32) (i : Fin 32) (n : ℕ) (h : v (ix2 (n0 := 32) (n1 := 1) i 0) = ctr i.val n) :
    k0_pay8 v (ix2 (n0 := 32) (n1 := 1) i 0) = BitVec.ofNat 32 n := by
  have e0 : iota .tc S32x1 32 [0] iota_S32x1_d0_w32 (ix2 (n0 := 32) (n1 := 1) i 0) = BitVec.ofNat 32 i.val := by rw [iota_apply]; simp
  have e : k0_pay8 v (ix2 (n0 := 32) (n1 := 1) i 0)
      = v (ix2 (n0 := 32) (n1 := 1) i 0) - 42#32 - (iota .tc S32x1 32 [0] iota_S32x1_d0_w32 (ix2 (n0 := 32) (n1 := 1) i 0)) * BitVec.ofNat 32 1000000 := rfl
  have e2 : ctr i.val n = BitVec.ofNat 32 (i.val * 1000000) + BitVec.ofNat 32 n + 42#32 := by
    unfold ctr; rw [BitVec.ofNat_add, BitVec.ofNat_add]
  rw [e, e0, h, e2, ← BitVec.ofNat_mul, BitVec.add_sub_cancel, BitVec.add_comm, BitVec.add_sub_cancel]

/-- The last point's results are read off the lanes after all points. -/
theorem outS_eq (c : Dev nD) : outS m c tl = sample (rAt m c 122) (xAtN m c 122) (X0_2 m c tl) (X0_3 m c tl) := by
  have h : tl.val + 1 = 122 := rfl
  unfold outS
  rw [h]
theorem outL_eq (c : Dev nD) : outL m c tl = logp (rAt m c 122) (xAtN m c 122) (sAt m c 122) (X0_2 m c tl) (X0_3 m c tl) := by
  have h : tl.val + 1 = 122 := rfl
  unfold outL
  rw [h]

/-- The lanes after all points, of a row. -/
theorem lanes_row (c : Dev nD) (i : Fin 32) (l : Fin 2048) :
    LaneOk 488 (fun q => noisyAt (argA m c) (argK m c) i (q * 2048 + l.val)) (fun q => expAt (argA m c) (argK m c) i (q * 2048 + l.val))
      (fun q => ctr i.val (q * 2048 + l.val)) (lanesAt m c 122 (ix2 (n0 := 32) (n1 := 2048) i l)) :=
  lanes_ok m c (ix2 (n0 := 32) (n1 := 2048) i l) 122 le_rfl

/-- The row's winner, in the kernel's terms. -/
theorem first_row (c : Dev nD) (i : Fin 32) (hb : ∃ k, k < 1000000 ∧ mlog (argA m c) (argK m c) i k ≠ ⊥) :
    ∃ n, IsWin 1000000 (noisyAt (argA m c) (argK m c) i) n ∧ noisyAt (argA m c) (argK m c) i n ≠ ⊥
      ∧ max (k0_pay105 (F := Ideal) (rAt m c 122) (ix2 (n0 := 32) (n1 := 1) i 0) : EReal)
            (k0_pay154 (F := Ideal) k0_pay110 w184 w189 (X0_3 m c tl) (X0_2 m c tl) (ix2 (n0 := 32) (n1 := 1) i 0) : EReal)
          = noisyAt (argA m c) (argK m c) i n
      ∧ winner (F := Ideal) (rAt m c 122) (xAtN m c 122) (X0_2 m c tl) (X0_3 m c tl) (ix2 (n0 := 32) (n1 := 1) i 0) = ctr i.val n := by
  obtain ⟨n, hn, hne, hmax, hx⟩ := row_first (noisyAt (argA m c) (argK m c) i) (expAt (argA m c) (argK m c) i) (fun n => ctr i.val n) 2147483647#32
    (fun l => lanesAt m c 122 (ix2 (n0 := 32) (n1 := 2048) i l))
    (fun l => tailN (F := Ideal) (tailX (X0_2 m c tl) (X0_3 m c tl)) (ix2 (n0 := 32) (n1 := 1024) i l))
    (counters i) (lanes_row m c i) (tailN_in m c i) (tailN_out m c i)
    (k0_pay105 (F := Ideal) (rAt m c 122) (ix2 (n0 := 32) (n1 := 1) i 0))
    (k0_pay154 (F := Ideal) k0_pay110 w184 w189 (X0_3 m c tl) (X0_2 m c tl) (ix2 (n0 := 32) (n1 := 1) i 0))
    (k0_pay106 (F := Ideal) (rAt m c 122) (xAtN m c 122) (ix2 (n0 := 32) (n1 := 1) i 0)) _
    (max_lanes _ _) (max_tail _ _ _) (min_lanes _ _ _) rfl
    (by obtain ⟨k, hk, h⟩ := hb; exact ⟨k, hk, fun e => h ((noisyAt_eq_bot _ _ _ _).mp e)⟩)
  refine ⟨n, hn, hne, hmax, ?_⟩
  refine Eq.trans (min_tail _ _ _ _ _ i) (Eq.trans ?_ hx)
  simp only [tail_ctr]

/-- The row's sum, in the kernel's terms. -/
theorem sum_row (c : Dev nD) (i : Fin 32) :
    (k0_pay158 (F := Ideal) (k0_pay107 (sAt m c 122)) (k0_pay152 (F := Ideal) k0_pay110 (X0_3 m c tl) (X0_2 m c tl)) (ix2 (n0 := 32) (n1 := 1) i 0) : EReal)
      = ∑ k ∈ Finset.range 1000000, expAt (argA m c) (argK m c) i k := by
  rw [sum_tail, sum_lanes]
  refine row_sum (expAt (argA m c) (argK m c) i) _ _ (fun l => (lanes_row m c i l).sum) (fun l h => ?_) (fun l h => ?_)
  · exact congrArg Ideal.exp (tail_in m c i l h)
  · exact congrArg Ideal.exp (tail_out m c i l h)

/-- The kernel's results on a row some of whose masked logits is above the least value. -/
theorem kernel_row (c : Dev nD) (i : Fin 32) (hb : ∃ k, k < 1000000 ∧ mlog (argA m c) (argK m c) i k ≠ ⊥) :
    ∃ n, IsWin 1000000 (noisyAt (argA m c) (argK m c) i) n ∧ noisyAt (argA m c) (argK m c) i n ≠ ⊥
      ∧ outS m c tl (ix2 (n0 := 32) (n1 := 1) i 0) = BitVec.ofNat 32 n
      ∧ (outL m c tl (ix2 (n0 := 32) (n1 := 1) i 0) : EReal)
        = mlog (argA m c) (argK m c) i n - Ideal.log (∑ k ∈ Finset.range 1000000, expAt (argA m c) (argK m c) i k) := by
  obtain ⟨n, hn, hne, hmax, hw⟩ := first_row m c i hb
  have hs := sum_row m c i
  have hb' : (winBits (F := Ideal) (rAt m c 122) (xAtN m c 122) (X0_2 m c tl) (X0_3 m c tl) (ix2 (n0 := 32) (n1 := 1) i 0) : EReal)
      = oneTo2 (F := Ideal) (word (ctr i.val n)) := by
    rw [← hw]
    exact Words.win_word (F := Ideal) (ix2 (n0 := 32) (n1 := 1) i 0) _ _ _ _ _ _
  rw [outS_eq, outL_eq, logp_apply]
  refine ⟨n, hn, hne, pay8_apply _ i n hw, ?_⟩
  rw [hs, hb', Ideal.maximumf_eq_max, hmax, Ideal.subf_def, Ideal.addf_def, Ideal.log_def]
  generalize Ideal.log (∑ k ∈ Finset.range 1000000, expAt (argA m c) (argK m c) i k) = L
  exact congrArg (· - L) (noisyAt_add (argA m c) (argK m c) i n)

end Cert.KernelIdeal.KernelValue

end
-- ==== Proof.RefGather.lean ====
/-
  The entry that the reference takes along each row: a gather whose rows are batched, read at a row.
-/
module

public import Idealize.ShloMosaic.Lib.ValueIdx

@[expose] public section

noncomputable section

namespace Cert.RefGather

open Idealize.ShloMosaic Idealize.ShloMosaic.ValueIdx

/-- The gather's layout: one column per row, the rows batched. -/
abbrev dims (B N : ℕ) (wf : GatherDims.WF ⟨2, ![B, N]⟩ ⟨3, ![B, 1, 1]⟩ ⟨2, ![B, 1]⟩ [] [1] [0] [1] [0] 2 ![1, 1]) :
    GatherDims ⟨2, ![B, N]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

variable {B N : ℕ} (wf : GatherDims.WF ⟨2, ![B, N]⟩ ⟨3, ![B, 1, 1]⟩ ⟨2, ![B, 1]⟩ [] [1] [0] [1] [0] 2 ![1, 1])
variable (y : (⟨2, ![B, 1]⟩ : Shape).Idx) (idx : IVec ⟨3, ![B, 1, 1]⟩ 32)

/-- The row is the result's. -/
theorem row_axis : ((dims B N wf).operandIdx y idx 0).val = (y 0).val := by
  show (dims B N wf).start y idx 0 + (dims B N wf).batchCoord y 0 + (dims B N wf).offCoord y 0 = _
  have h1 : (dims B N wf).start y idx 0 = 0 := GatherDims.start_batching _ _ _ _ (List.mem_singleton.mpr rfl)
  have h2 : (dims B N wf).offCoord y 0 = 0 := GatherDims.offCoord_eq_zero _ _ _ fun h => ((GatherDims.mem_sKept _ _).mp h).2 (List.mem_singleton.mpr rfl)
  have h3 : (dims B N wf).batchCoord y 0 = (y 0).val := (dif_pos (List.mem_singleton.mpr rfl)).trans rfl
  rw [h1, h2, h3, Nat.zero_add, Nat.add_zero]

/-- The column is the index word, read as a signed integer and kept within the row. -/
theorem col_axis : ((dims B N wf).operandIdx y idx 1).val = min (idx (takeIdx (R := B) (C := 1) y)).toInt.toNat (N - 1) := by
  show (dims B N wf).start y idx 1 + (dims B N wf).batchCoord y 1 + (dims B N wf).offCoord y 1 = _
  have h1 : (dims B N wf).batchCoord y 1 = 0 := GatherDims.batchCoord_eq_zero _ _ _ fun h => by simp at h
  have h2 : (dims B N wf).offCoord y 1 = 0 := GatherDims.offCoord_eq_zero _ _ _ fun h => ((GatherDims.mem_sKept _ _).mp h).1 (List.mem_singleton.mpr rfl)
  have hs : (dims B N wf).siIdx y ⟨List.idxOf (1 : Fin 2) (dims B N wf).startIndexMap, List.idxOf_lt_length_iff.2 (List.mem_singleton.mpr rfl)⟩
      = takeIdx (R := B) (C := 1) y := by
    funext b
    refine Fin.ext ?_
    match b with
    | ⟨0, _⟩ => rfl
    | ⟨1, _⟩ => rfl
    | ⟨2, _⟩ => rfl
  have h3 : (dims B N wf).start y idx 1 = min (idx (takeIdx (R := B) (C := 1) y)).toInt.toNat (N - 1) := by
    unfold GatherDims.start
    rw [dif_pos (show (1 : Fin 2) ∈ (dims B N wf).startIndexMap from List.mem_singleton.mpr rfl), hs]
    rfl
  rw [h1, h2, h3, Nat.add_zero]

/-- The gather at a row whose index word is the column `v`. -/
theorem gather_at {α : Type} (x : (⟨2, ![B, N]⟩ : Shape).Idx → α) (i : Fin B) (v : Fin N)
    (h : (idx (takeIdx (R := B) (C := 1) (ix2 (n0 := B) (n1 := 1) i 0))).toInt = (v.val : ℤ)) :
    Host.gather (dims B N wf) x idx (ix2 (n0 := B) (n1 := 1) i 0) = x (ix2 (n0 := B) (n1 := N) i v) := by
  unfold Host.gather
  refine congrArg x (funext fun a => Fin.ext ?_)
  match a with
  | ⟨0, _⟩ => exact row_axis wf _ idx
  | ⟨1, _⟩ =>
    refine (col_axis wf _ idx).trans ?_
    have hv := v.isLt
    rw [h, Int.toNat_natCast]
    exact min_eq_left (by omega)

end Cert.RefGather

end
-- ==== Proof.RefRow.lean ====
/-
  What the reference returns for a row over the extended reals: the winner of the noisy logits and the softmax's logarithm there.
-/
module

public import proofs.«01_k».proof.Proof.RefValue
public import proofs.«01_k».proof.Proof.RefGather
public import Idealize.ShloMosaic.Lib.ReduceAll

@[expose] public section

noncomputable section

namespace Cert.ReferenceIdeal.RefRow

open Cert.ReferenceIdeal Cert.ReferenceIdeal.Gen Cert.ReferenceIdeal.Read Cert.ReferenceIdeal.RefValue Cert.Cipher Cert.Row Cert.Argmax
open Idealize.ShloMosaic

variable (A : SA.Idx → EReal) (K : SA.Idx → W) (i : Fin 32)

/-- The row's greatest masked logit. -/
def peak : EReal := Finset.univ.fold max ⊥ fun n : Fin 1000000 => mlog A K i n.val
/-- The sum of the exponentials of the masked logits less the greatest one. -/
def mass : EReal := ∑ k ∈ Finset.range 1000000, Ideal.exp (mlog A K i k - peak A K i)

/-- A row's only column. -/
abbrev one_ (i : Fin 32) : S32x1.Idx := ix2 (n0 := 32) (n1 := 1) i 0

/-- A masked logit less the greatest one. -/
theorem shifted (n : Fin 1000000) : (val_main_call2_v5 (F := Ideal) A K (at_ i n) : EReal) = mlog A K i n.val - peak A K i := by
  have e1 : (val_main_call2_v4 (F := Ideal) A K (at_ i n) : EReal) = val_main_call2_v2 (F := Ideal) A K (row_ i) := by
    refine (val_main_call2_v4_apply (F := Ideal) A K (at_ i n)).trans ((val_main_call2_v3_apply (F := Ideal) A K _).trans ?_)
    refine congrArg (val_main_call2_v2 (F := Ideal) A K) (funext fun a => ?_)
    match a with
    | ⟨0, _⟩ => rfl
  have e2 : (val_main_call2_v1 (F := Ideal) (row_ i) : EReal) = ⊥ := (val_main_call2_v1_apply (F := Ideal) (row_ i)).trans Cert.Noise.ninf
  have e3 : (val_main_call2_v2 (F := Ideal) A K (row_ i) : EReal) = peak A K i := by
    rw [val_main_call2_v2_apply, Ideal.maximumf_eq_max, e2, peak_at]
    exact max_eq_right bot_le
  rw [val_main_call2_v5_apply, Ideal.subf_def, e1, e3, logit]

/-- The sum of a row's exponentials. -/
theorem mass_at : (val_main_call2_v7 (F := Ideal) A K (row_ i) : EReal) = mass A K i := by
  rw [val_main_call2_v7_apply]
  have e0 : (val_main_call2_cst_1 (F := Ideal) (Shape.Idx.first h_S_) : EReal) = 0 := Cert.Noise.zero
  rw [e0, zero_add]
  unfold mass
  rw [Finset.sum_range]
  refine Finset.sum_congr rfl fun k _ => ?_
  have ei : idx_main_call2_v7 (row_ i) k = at_ i k := by
    funext a
    match a with
    | ⟨0, _⟩ => rfl
    | ⟨1, _⟩ => rfl
  rw [ei, val_main_call2_v6_apply, Ideal.hostUnary_exp_def, shifted]

/-- The softmax's logarithm. -/
theorem log_softmax (n : Fin 1000000) : (val_main_v211 (F := Ideal) A K (at_ i n) : EReal)
    = (mlog A K i n.val - peak A K i) - Ideal.log (mass A K i) := by
  have e1 : (val_main_call2_v10 (F := Ideal) A K (at_ i n) : EReal) = Ideal.log (val_main_call2_v7 (F := Ideal) A K (row_ i)) := by
    refine (val_main_call2_v10_apply (F := Ideal) A K (at_ i n)).trans ?_
    refine (val_main_call2_v9_apply (F := Ideal) A K _).trans ?_
    rw [Ideal.hostUnary_log_def]
    refine congrArg Ideal.log ((val_main_call2_v8_apply (F := Ideal) A K _).trans ?_)
    refine congrArg (val_main_call2_v7 (F := Ideal) A K) (funext fun a => ?_)
    match a with
    | ⟨0, _⟩ => rfl
  rw [val_main_v211_apply, Ideal.subf_def, e1, mass_at, shifted]

variable {v : ℕ} (h : IsWin 1000000 (noisyAt A K i) v)
include h

/-- The column that the reference looks up. -/
theorem column : val_main_call3_v4 (F := Ideal) A K (one_ i) = BitVec.ofNat 32 v := by
  have hv := h.lt
  have e : val_main_v212 (F := Ideal) A K (one_ i) = BitVec.ofNat 32 v := by
    refine (val_main_v212_apply (F := Ideal) A K (one_ i)).trans (Eq.trans (congrArg (val_main_v210 (F := Ideal) A K) (funext fun a => ?_)) (sample A K i h))
    match a with
    | ⟨0, _⟩ => rfl
  have e0 : val_main_call3_v0 (F := Ideal) (one_ i) = 0#32 := val_main_call3_v0_apply (F := Ideal) (one_ i)
  have hn : IntOp.cmpi .slt (BitVec.ofNat 32 v) 0#32 = 0#1 := by
    have hs : (BitVec.ofNat 32 v).slt 0#32 = false := by
      rw [BitVec.slt_eq_decide, small v (by omega)]
      exact decide_eq_false (by simp)
    show BitVec.ofBool ((BitVec.ofNat 32 v).slt 0#32) = 0#1
    rw [hs]; rfl
  rw [val_main_call3_v4_apply, val_main_call3_v1_apply, e, e0, hn]
  rfl

/-- The column, as the gather's index. -/
theorem index (b c : Fin 1) : val_main_call3_v5 (F := Ideal) A K (ix3 (n0 := 32) (n1 := 1) (n2 := 1) i b c) = BitVec.ofNat 32 v := by
  refine (val_main_call3_v5_apply (F := Ideal) A K _).trans (Eq.trans (congrArg (val_main_call3_v4 (F := Ideal) A K) ?_) (column A K i h))
  have hb : b = 0 := Subsingleton.elim _ _
  have hc : c = 0 := Subsingleton.elim _ _
  subst hb hc
  funext a
  match a with
  | ⟨0, _⟩ => exact Fin.ext (by show (((i.val * 1 + 0) * 1 + 0) / 1 : ℕ) = i.val; omega)
  | ⟨1, _⟩ => rfl

/-- The index is within the row. -/
theorem within (b c : Fin 1) : val_main_call3_v11 (F := Ideal) A K (ix3 (n0 := 32) (n1 := 1) (n2 := 1) i b c) = 1#1 := by
  have hv := h.lt
  have e6 : val_main_call3_v6 (F := Ideal) (ix3 (n0 := 32) (n1 := 1) (n2 := 1) i b c) = 0#32 := val_main_call3_v6_apply (F := Ideal) _
  have e9 : val_main_call3_v9 (F := Ideal) (ix3 (n0 := 32) (n1 := 1) (n2 := 1) i b c) = 999999#32 :=
    (val_main_call3_v9_apply (F := Ideal) _).trans (val_main_call3_v8_apply (F := Ideal) _)
  have h1 : IntOp.cmpi .sge (BitVec.ofNat 32 v) 0#32 = 1#1 := by
    have hs : (0#32).sle (BitVec.ofNat 32 v) = true := by
      rw [BitVec.sle_eq_decide, small v (by omega)]
      exact decide_eq_true (by simp)
    show BitVec.ofBool ((0#32).sle (BitVec.ofNat 32 v)) = 1#1
    rw [hs]; rfl
  have h2 : IntOp.cmpi .sle (BitVec.ofNat 32 v) 999999#32 = 1#1 := by
    have hs : (BitVec.ofNat 32 v).sle 999999#32 = true := by
      rw [BitVec.sle_eq_decide, small v (by omega), show (999999#32).toInt = 999999 by decide]
      exact decide_eq_true (by omega)
    show BitVec.ofBool ((BitVec.ofNat 32 v).sle 999999#32) = 1#1
    rw [hs]; rfl
  rw [val_main_call3_v11_apply, val_main_call3_v7_apply, val_main_call3_v10_apply, index A K i h, e6, e9, h1, h2]
  rfl

omit h in
/-- Every index is within its row, since every row has a winner. -/
theorem all_within (j : S32x1.Idx) : val_main_call3_v12 (F := Ideal) A K j = 1#1 := by
  unfold val_main_call3_v12
  refine Host.reduce_andi_one _ _ _ _ j rfl fun k => ?_
  obtain ⟨v, h⟩ := exists_win 1000000 (by decide) (noisyAt A K (k 0))
  have ek : k = ix3 (n0 := 32) (n1 := 1) (n2 := 1) (k 0) (k 1) (k 2) := by
    funext a
    match a with
    | ⟨0, _⟩ => rfl
    | ⟨1, _⟩ => rfl
    | ⟨2, _⟩ => rfl
  rw [ek]
  exact within A K (k 0) h (k 1) (k 2)

/-- The log-probability that the reference returns: the softmax's logarithm at the winner. -/
theorem log_prob : (val_main_v214 (F := Ideal) A K (row_ i) : EReal) = (mlog A K i v - peak A K i) - Ideal.log (mass A K i) := by
  have hv := h.lt
  have e0 : idx_main_v214 (row_ i) = one_ i := by
    funext a
    match a with
    | ⟨0, _⟩ => exact Fin.ext (Nat.div_one i.val)
    | ⟨1, _⟩ => rfl
  have e1 : (val_main_v213 (F := Ideal) A K (one_ i) : EReal) = val_main_call3_v13 (F := Ideal) A K (one_ i) := by
    rw [val_main_v213_apply, all_within]
    rfl
  have e2 : (val_main_call3_v13 (F := Ideal) A K (one_ i) : EReal) = val_main_v211 (F := Ideal) A K (at_ i ⟨v, h.lt⟩) := by
    refine Cert.RefGather.gather_at gather_S32x1000000_S32x1x1_S32x1_n_1_0_0_1_2_11_wf (val_main_call3_v5 (F := Ideal) A K)
      (val_main_v211 (F := Ideal) A K) i ⟨v, h.lt⟩ ?_
    have e : (ValueIdx.takeIdx (R := 32) (C := 1) (ValueIdx.ix2 i 0)) = ix3 (n0 := 32) (n1 := 1) (n2 := 1) i 0 0 := by
      funext a
      match a with
      | ⟨0, _⟩ => rfl
      | ⟨1, _⟩ => rfl
      | ⟨2, _⟩ => rfl
    rw [e, index A K i h 0 0]
    exact small v (by omega)
  refine (val_main_v214_apply (F := Ideal) A K (row_ i)).trans ?_
  rw [e0, e1, e2, log_softmax]

end Cert.ReferenceIdeal.RefRow

end
-- ==== Proof.Softmax.lean ====
/-
  The two ways to write the logarithm of a softmax over the extended reals: with the greatest value taken off first, and without.
-/
module

public import proofs.«01_k».proof.Proof.Noise

@[expose] public section

noncomputable section

namespace Cert.Softmax

open Idealize.ShloMosaic

theorem exp_coe (r : ℝ) : Ideal.exp (r : EReal) = (Real.exp r : EReal) := rfl
theorem exp_bot : Ideal.exp ⊥ = 0 := rfl
theorem exp_top : Ideal.exp ⊤ = ⊤ := rfl
theorem log_top : Ideal.log ⊤ = ⊤ := rfl

/-- A sum of reals. -/
theorem coe_sum (s : Finset ℕ) (e : ℕ → ℝ) : ((∑ k ∈ s, e k : ℝ) : EReal) = ∑ k ∈ s, (e k : EReal) := by
  classical
  induction s using Finset.induction_on with
  | empty => rfl
  | insert a s ha ih => rw [Finset.sum_insert ha, Finset.sum_insert ha, EReal.coe_add, ih]

/-- An exponential is not negative. -/
theorem exp_nonneg (x : EReal) : 0 ≤ Ideal.exp x := by
  induction x with
  | bot => exact le_rfl
  | top => exact le_top
  | coe r => exact EReal.coe_nonneg.mpr (Real.exp_pos r).le

/-- Below the greatest extended real, an exponential is a real. -/
theorem exp_real (x : EReal) (h : x ≠ ⊤) : ∃ e : ℝ, 0 ≤ e ∧ Ideal.exp x = (e : EReal) ∧ (x ≠ ⊥ → 0 < e)
    ∧ ∀ M : ℝ, Ideal.exp (x - M) = ((e * Real.exp (-M) : ℝ) : EReal) := by
  induction x with
  | bot => exact ⟨0, le_rfl, exp_bot, fun h => absurd rfl h, fun M => by rw [EReal.bot_sub, exp_bot, zero_mul]; rfl⟩
  | top => exact absurd rfl h
  | coe r =>
    refine ⟨Real.exp r, (Real.exp_pos r).le, rfl, fun _ => Real.exp_pos r, fun M => ?_⟩
    rw [← EReal.coe_sub, exp_coe, ← Real.exp_add, sub_eq_add_neg]

/-- Two ways to write the same value: the logit less the logarithm of the sum of exponentials, and the same with `M` taken off every
    logit, where `M` is the greatest of them. When it is the greatest extended real the logit chosen is that too, and both are the least. -/
theorem two_ways (V n : ℕ) (f : ℕ → EReal) (M : EReal) (hn : n < V) (hb : f n ≠ ⊥) (hM : ∀ k, k < V → f k ≤ M) (htop : M = ⊤ → f n = ⊤) :
    f n - Ideal.log (∑ k ∈ Finset.range V, Ideal.exp (f k)) = (f n - M) - Ideal.log (∑ k ∈ Finset.range V, Ideal.exp (f k - M)) := by
  classical
  by_cases ht : M = ⊤
  · have hf := htop ht
    have hs : ∑ k ∈ Finset.range V, Ideal.exp (f k) = ⊤ :=
      top_le_iff.mp ((le_of_eq (by rw [hf]; rfl : (⊤ : EReal) = Ideal.exp (f n))).trans
        (Finset.single_le_sum (f := fun k => Ideal.exp (f k)) (fun k _ => exp_nonneg _) (Finset.mem_range.mpr hn)))
    rw [hs, log_top, hf, ht]
    have e : (⊤ : EReal) - ⊤ = ⊥ := rfl
    rw [e, EReal.bot_sub]
  · have hlt : ∀ k, k < V → f k ≠ ⊤ := fun k hk e => ht (top_le_iff.mp (e ▸ hM k hk))
    have hMb : M ≠ ⊥ := fun e => hb (le_bot_iff.mp (e ▸ hM n hn))
    lift M to ℝ using ⟨ht, hMb⟩
    have hr : ∀ k, ∃ e : ℝ, k < V → 0 ≤ e ∧ Ideal.exp (f k) = (e : EReal) ∧ (f k ≠ ⊥ → 0 < e) ∧ ∀ M : ℝ, Ideal.exp (f k - M) = ((e * Real.exp (-M) : ℝ) : EReal) := fun k => by
      by_cases hk : k < V
      · obtain ⟨e, he⟩ := exp_real (f k) (hlt k hk)
        exact ⟨e, fun _ => he⟩
      · exact ⟨0, fun h => absurd h hk⟩
    choose e he using hr
    have h1 : ∑ k ∈ Finset.range V, Ideal.exp (f k) = ((∑ k ∈ Finset.range V, e k : ℝ) : EReal) := by
      rw [coe_sum]
      exact Finset.sum_congr rfl fun k hk => (he k (Finset.mem_range.mp hk)).2.1
    have h2 : ∑ k ∈ Finset.range V, Ideal.exp (f k - M) = (((∑ k ∈ Finset.range V, e k) * Real.exp (-M) : ℝ) : EReal) := by
      rw [Finset.sum_mul, coe_sum]
      exact Finset.sum_congr rfl fun k hk => (he k (Finset.mem_range.mp hk)).2.2.2 M
    have hpos : 0 < ∑ k ∈ Finset.range V, e k :=
      lt_of_lt_of_le ((he n hn).2.2.1 hb) (Finset.single_le_sum (f := e) (fun k hk => (he k (Finset.mem_range.mp hk)).1) (Finset.mem_range.mpr hn))
    rw [h1, h2, Noise.log_pos hpos, Noise.log_pos (mul_pos hpos (Real.exp_pos _)), Real.log_mul hpos.ne' (Real.exp_pos _).ne', Real.log_exp]
    have hfn : f n ≠ ⊤ := hlt n hn
    lift f n to ℝ using ⟨hfn, hb⟩ with a
    rw [← EReal.coe_sub, ← EReal.coe_sub, ← EReal.coe_sub]
    congr 1
    ring

end Cert.Softmax

end
-- ==== Proof.Equation.lean ====
/-
  The kernel's and the reference's results are equal on rows that the precondition admits.
-/
module

public import proofs.«01_k».proof.Proof.KernelValue
public import proofs.«01_k».proof.Proof.RefRow
public import proofs.«01_k».proof.Proof.Softmax

@[expose] public section

noncomputable section

namespace Cert.Equation

open Cert.KernelIdeal.Body Cert.KernelIdeal.Run Cert.KernelIdeal.KernelValue Cert.ReferenceIdeal.RefRow Cert.ReferenceIdeal.RefValue Cert.ReferenceIdeal.Read
open Cert.Cipher Cert.Row Cert.Argmax
open Idealize.ShloMosaic

/-- If some masked logit is the greatest extended real, so is the winner's. -/
theorem top_wins (A : SA.Idx → EReal) (K : SA.Idx → W) (i : Fin 32) {n : ℕ} (h : IsWin 1000000 (noisyAt A K i) n) (ht : peak A K i = ⊤) :
    mlog A K i n = ⊤ := by
  obtain ⟨k, hk⟩ := foldmax_mem (fun n : Fin 1000000 => mlog A K i n.val) (fun e => absurd (ht.symm.trans e) top_ne_bot)
  have hk' : mlog A K i k.val = ⊤ := hk.trans ht
  have hn : noisyAt A K i k.val = ⊤ := by
    obtain ⟨r, hr⟩ := noise_real i k.val
    unfold noisyAt
    rw [hk', hr]
    exact EReal.top_sub_coe r
  have hw : noisyAt A K i n = ⊤ := top_le_iff.mp (hn ▸ h.le k.val k.isLt)
  obtain ⟨r, hr⟩ := noise_real i n
  rw [← noisyAt_add A K i n, hw, hr]
  exact EReal.top_add_coe r

/-- The log-probability of the winner, written both ways. -/
theorem log_prob_eq (A : SA.Idx → EReal) (K : SA.Idx → W) (i : Fin 32) {n : ℕ} (h : IsWin 1000000 (noisyAt A K i) n) (hne : noisyAt A K i n ≠ ⊥) :
    mlog A K i n - Ideal.log (∑ k ∈ Finset.range 1000000, expAt A K i k) = (mlog A K i n - peak A K i) - Ideal.log (mass A K i) :=
  Softmax.two_ways 1000000 n (mlog A K i) (peak A K i) h.lt (fun e => hne ((noisyAt_eq_bot A K i n).mpr e))
    (fun k hk => le_foldmax (fun n : Fin 1000000 => mlog A K i n.val) ⟨k, hk⟩) (top_wins A K i h)

open Cert.KernelIdeal in
/-- Both results of a row. -/
theorem row_eq (m : (ℓ : Loc nD τ sig) → Buf (Elt Ideal) ℓ) (c : Dev nD) (i : Fin 32) (hb : ∃ k, k < 1000000 ∧ mlog (argA m c) (argK m c) i k ≠ ⊥) :
    outS m c tl (ix2 (n0 := 32) (n1 := 1) i 0) = val_main_v210 (F := Ideal) (argA m c) (argK m c) (row_ i)
      ∧ (outL m c tl (ix2 (n0 := 32) (n1 := 1) i 0) : EReal) = val_main_v214 (F := Ideal) (argA m c) (argK m c) (row_ i) := by
  obtain ⟨n, hn, hne, hs, hl⟩ := kernel_row m c i hb
  exact ⟨hs.trans (sample _ _ i hn).symm, hl.trans ((log_prob_eq _ _ i hn hne).trans (log_prob _ _ i hn).symm)⟩

/-- A row of a column of one entry per row. -/
theorem column_row {α : Type} (x : (⟨2, ![32, 1]⟩ : Shape).Idx → α) (h : (⟨2, ![32, 1]⟩ : Shape).ShapeCasts ⟨1, ![32]⟩) (j : (⟨1, ![32]⟩ : Shape).Idx) :
    shapeCast ⟨1, ![32]⟩ x h j = x (ix2 (n0 := 32) (n1 := 1) (j 0) 0) := by
  refine shapeCast_apply x h j _ ?_
  rewrite [Shape.rowMajor_val_two, Shape.rowMajor_val_one]
  show (j 0).val * 1 + 0 = (j 0).val
  omega

open Cert.KernelIdeal Cert.KernelIdeal.Gen in
/-- Both results. -/
theorem results (m : (ℓ : Loc nD τ sig) → Buf (Elt Ideal) ℓ) (c : Dev nD) (hb : ∀ i, ∃ k, k < 1000000 ∧ mlog (argA m c) (argK m c) i k ≠ ⊥) :
    shapeCast S32 (outS m c tl) shapeCasts_S32x1_S32 = val_main_v210 (F := Ideal) (argA m c) (argK m c)
      ∧ shapeCast S32 (outL m c tl) shapeCasts_S32x1_S32 = val_main_v214 (F := Ideal) (argA m c) (argK m c) := by
  have hrow : ∀ j : S32.Idx, j = row_ (j 0) := fun j => funext fun a => match a with | ⟨0, _⟩ => rfl
  constructor
  · funext j
    rw [hrow j]
    exact (column_row _ _ _).trans (row_eq m c (j 0) (hb (j 0))).1
  · funext j
    rw [hrow j]
    exact (column_row _ _ _).trans (row_eq m c (j 0) (hb (j 0))).2

end Cert.Equation

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_some_entry_allowed
public import proofs.«01_k».proof.Proof.KernelFrame
public import proofs.«01_k».proof.Proof.Run
public import proofs.«01_k».proof.Proof.Allowed
public import proofs.«01_k».proof.Proof.Equation
public import Idealize.ShloMosaic.Adequacy
public import Idealize.ShloMosaic.Init

@[expose] public section

noncomputable section

namespace Cert.Proof

open Idealize.ShloMosaic Idealize.SL.Sem

/-- The kernel's frame. -/
theorem frame_kernel : Cert.quiescent_Kernel (hKernel := Cert.Kernel.Gen.facts) := fun m ρ _ => Cert.Kernel.Hand.frame m ρ

/-- The idealized kernel's run leaves its arguments and its semaphores as they were. -/
theorem frame_kernelIdeal : Cert.quiescent_KernelIdeal (hKernelIdeal := Cert.KernelIdeal.Gen.facts) := fun m ρ _ =>
  (θ_run Cert.KernelIdeal.defs _ _).mono (fun _ h => ⟨fun c => (h.1 c).2.2, h.2⟩) (Cert.KernelIdeal.Run.run m ρ)

/-- The same, from memories that the precondition admits. -/
theorem frame_kernelIdeal_pre : Cert.quiescent_KernelIdeal_pre_some_entry_allowed (hKernelIdeal := Cert.KernelIdeal.Gen.facts)
    (hPre_some_entry_allowed := Cert.Pre_some_entry_allowed.Gen.facts) := fun m ρ _ => frame_kernelIdeal m ρ trivial

/-- The reference's frame. -/
theorem frame_reference : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The same, from memories that the precondition admits. -/
theorem frame_reference_pre : Cert.quiescent_ReferenceIdeal_pre_some_entry_allowed (hReferenceIdeal := Cert.ReferenceIdeal.Gen.facts)
    (hPre_some_entry_allowed := Cert.Pre_some_entry_allowed.Gen.facts) := fun m ρ _ => frame_reference m ρ trivial

/-- The padding constant is named. -/
theorem preserves : Cert.preserves_Kernel_KernelIdeal := IdealRules.named_const.statement _ _ _ _ _ rfl

/-- Both programs end with the same samples and log-probabilities, the ones that the reference computes. -/
theorem algebraic : Cert.algebraic_KernelIdeal_ReferenceIdeal_pre_some_entry_allowed (hKernelIdeal := Cert.KernelIdeal.Gen.facts)
    (hReferenceIdeal := Cert.ReferenceIdeal.Gen.facts) (hPre_some_entry_allowed := Cert.Pre_some_entry_allowed.Gen.facts) := by
  intro m g m' g' hpre hargs
  refine ⟨fun c => Cert.ReferenceIdeal.Read.val_main_v210 (F := Ideal) (Cert.KernelIdeal.KernelValue.argA m c) (Cert.KernelIdeal.KernelValue.argK m c),
    fun c => Cert.ReferenceIdeal.Read.val_main_v214 (F := Ideal) (Cert.KernelIdeal.KernelValue.argA m c) (Cert.KernelIdeal.KernelValue.argK m c), ?_, ?_⟩
  · refine (θ_run Cert.KernelIdeal.defs _ _).mono (fun r h c => ?_) (Cert.KernelIdeal.Run.run m g)
    obtain ⟨h1, h2⟩ := Cert.Equation.results m c (Cert.Allowed.allowed _ _ (hpre c))
    exact ⟨(h.1 c).1.trans h1, (h.1 c).2.1.trans h2, (h.1 c).2.2⟩
  · refine (θ_run Cert.ReferenceIdeal.defs _ _).mono (fun r h c => ?_) (Cert.ReferenceIdeal.Value.run (F := Ideal) m' g')
    refine ⟨(h c).1.trans ((Cert.ReferenceIdeal.Read.val_main_v210_eq _).trans ?_), (h c).2.1.trans ((Cert.ReferenceIdeal.Read.val_main_v214_eq _).trans ?_), (h c).2.2⟩
    · exact congrArg₂ (Cert.ReferenceIdeal.Read.val_main_v210 (F := Ideal)) (hargs c).1 (hargs c).2
    · exact congrArg₂ (Cert.ReferenceIdeal.Read.val_main_v214 (F := Ideal)) (hargs c).1 (hargs c).2

theorem claim : Cert.Claim :=
  ⟨Cert.Kernel.Gen.facts, Cert.KernelIdeal.Gen.facts, Cert.ReferenceIdeal.Gen.facts, Cert.Pre_some_entry_allowed.Gen.facts, frame_kernel,
    frame_kernelIdeal, frame_kernelIdeal_pre, frame_reference, frame_reference_pre, preserves, algebraic⟩

end Cert.Proof

end
